-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x40x40x40 : Shape := ⟨5, ![2, 128, 40, 40, 40]⟩
abbrev S128 : Shape := ⟨1, ![128]⟩
abbrev S512x128 : Shape := ⟨2, ![512, 128]⟩
abbrev S256x4 : Shape := ⟨2, ![256, 4]⟩
abbrev S256 : Shape := ⟨1, ![256]⟩
abbrev S24x256 : Shape := ⟨2, ![24, 256]⟩
abbrev S256x8 : Shape := ⟨2, ![256, 8]⟩
abbrev S128x256 : Shape := ⟨2, ![128, 256]⟩
abbrev S2x128x20x2x20x2x20x2 : Shape := ⟨8, ![2, 128, 20, 2, 20, 2, 20, 2]⟩
abbrev S20x20x20x2x2x2x2x128 : Shape := ⟨8, ![20, 20, 20, 2, 2, 2, 2, 128]⟩
abbrev S8000x16x128 : Shape := ⟨3, ![8000, 16, 128]⟩
abbrev S128x512 : Shape := ⟨2, ![128, 512]⟩
abbrev S256x24 : Shape := ⟨2, ![256, 24]⟩
abbrev S8x256 : Shape := ⟨2, ![8, 256]⟩
abbrev S1x256 : Shape := ⟨2, ![1, 256]⟩
abbrev S4x256 : Shape := ⟨2, ![4, 256]⟩
abbrev S1x1x256 : Shape := ⟨3, ![1, 1, 256]⟩
abbrev S1x1x128 : Shape := ⟨3, ![1, 1, 128]⟩
abbrev S256x128 : Shape := ⟨2, ![256, 128]⟩
abbrev S80x8x128 : Shape := ⟨3, ![80, 8, 128]⟩
abbrev S3x8x256 : Shape := ⟨3, ![3, 8, 256]⟩
abbrev S8x8x256 : Shape := ⟨3, ![8, 8, 256]⟩
abbrev S8x80x8x256 : Shape := ⟨4, ![8, 80, 8, 256]⟩
abbrev S80x8x256 : Shape := ⟨3, ![80, 8, 256]⟩
abbrev S80x8 : Shape := ⟨2, ![80, 8]⟩
abbrev S80x8x1 : Shape := ⟨3, ![80, 8, 1]⟩
abbrev S640x128 : Shape := ⟨2, ![640, 128]⟩
abbrev S640x512 : Shape := ⟨2, ![640, 512]⟩
abbrev S640x256 : Shape := ⟨2, ![640, 256]⟩
abbrev S83x8x256 : Shape := ⟨3, ![83, 8, 256]⟩
abbrev S640x24 : Shape := ⟨2, ![640, 24]⟩
abbrev S640x8 : Shape := ⟨2, ![640, 8]⟩
abbrev S80x8x8 : Shape := ⟨3, ![80, 8, 8]⟩
abbrev S1x80x8x256 : Shape := ⟨4, ![1, 80, 8, 256]⟩
abbrev S1x8x256 : Shape := ⟨3, ![1, 8, 256]⟩
abbrev S1x1x8x256 : Shape := ⟨4, ![1, 1, 8, 256]⟩

abbrev nBuf : Space → Nat
  | .hbm => 30
  | .vmem => 21
  | .smem => 0
  | _ => 0

abbrev bufTy : (tb : Table) → Fin (tcTables nBuf tb) → BufTy
  | .hbm, ⟨0, _⟩ => ⟨S2x128x40x40x40, .f32⟩
  | .hbm, ⟨1, _⟩ => ⟨S128, .f32⟩
  | .hbm, ⟨2, _⟩ => ⟨S128, .f32⟩
  | .hbm, ⟨3, _⟩ => ⟨S512x128, .f32⟩
  | .hbm, ⟨4, _⟩ => ⟨S256x4, .f32⟩
  | .hbm, ⟨5, _⟩ => ⟨S256, .f32⟩
  | .hbm, ⟨6, _⟩ => ⟨S24x256, .f32⟩
  | .hbm, ⟨7, _⟩ => ⟨S256x8, .f32⟩
  | .hbm, ⟨8, _⟩ => ⟨S256, .f32⟩
  | .hbm, ⟨9, _⟩ => ⟨S256x8, .f32⟩
  | .hbm, ⟨10, _⟩ => ⟨S256, .f32⟩
  | .hbm, ⟨11, _⟩ => ⟨S128x256, .f32⟩
  | .hbm, ⟨12, _⟩ => ⟨S2x128x20x2x20x2x20x2, .f32⟩
  | .hbm, ⟨13, _⟩ => ⟨S20x20x20x2x2x2x2x128, .f32⟩
  | .hbm, ⟨14, _⟩ => ⟨S8000x16x128, .f32⟩
  | .hbm, ⟨15, _⟩ => ⟨S128x512, .f32⟩
  | .hbm, ⟨16, _⟩ => ⟨S256x24, .f32⟩
  | .hbm, ⟨17, _⟩ => ⟨S8x256, .f32⟩
  | .hbm, ⟨18, _⟩ => ⟨S1x256, .f32⟩
  | .hbm, ⟨19, _⟩ => ⟨S4x256, .f32⟩
  | .hbm, ⟨20, _⟩ => ⟨S1x1x256, .f32⟩
  | .hbm, ⟨21, _⟩ => ⟨S1x1x128, .f32⟩
  | .hbm, ⟨22, _⟩ => ⟨S1x1x128, .f32⟩
  | .hbm, ⟨23, _⟩ => ⟨S1x1x256, .f32⟩
  | .hbm, ⟨24, _⟩ => ⟨S8x256, .f32⟩
  | .hbm, ⟨25, _⟩ => ⟨S256x128, .f32⟩
  | .hbm, ⟨26, _⟩ => ⟨S8000x16x128, .f32⟩
  | .hbm, ⟨27, _⟩ => ⟨S20x20x20x2x2x2x2x128, .f32⟩
  | .hbm, ⟨28, _⟩ => ⟨S2x128x20x2x20x2x20x2, .f32⟩
  | .hbm, ⟨29, _⟩ => ⟨S2x128x40x40x40, .f32⟩
  | .local _ .vmem, ⟨0, _⟩ => ⟨S80x8x128, .f32⟩
  | .local _ .vmem, ⟨1, _⟩ => ⟨S80x8x128, .f32⟩
  | .local _ .vmem, ⟨2, _⟩ => ⟨S128x512, .f32⟩
  | .local _ .vmem, ⟨3, _⟩ => ⟨S256x24, .f32⟩
  | .local _ .vmem, ⟨4, _⟩ => ⟨S8x256, .f32⟩
  | .local _ .vmem, ⟨5, _⟩ => ⟨S1x256, .f32⟩
  | .local _ .vmem, ⟨6, _⟩ => ⟨S4x256, .f32⟩
  | .local _ .vmem, ⟨7, _⟩ => ⟨S1x1x256, .f32⟩
  | .local _ .vmem, ⟨8, _⟩ => ⟨S1x1x128, .f32⟩
  | .local _ .vmem, ⟨9, _⟩ => ⟨S1x1x128, .f32⟩
  | .local _ .vmem, ⟨10, _⟩ => ⟨S1x1x256, .f32⟩
  | .local _ .vmem, ⟨11, _⟩ => ⟨S8x256, .f32⟩
  | .local _ .vmem, ⟨12, _⟩ => ⟨S256x128, .f32⟩
  | .local _ .vmem, ⟨13, _⟩ => ⟨S80x8x128, .f32⟩
  | .local _ .vmem, ⟨14, _⟩ => ⟨S80x8x128, .f32⟩
  | .local _ .vmem, ⟨15, _⟩ => ⟨S3x8x256, .f32⟩
  | .local _ .vmem, ⟨16, _⟩ => ⟨S8x8x256, .f32⟩
  | .local _ .vmem, ⟨17, _⟩ => ⟨S8x80x8x256, .f32⟩
  | .local _ .vmem, ⟨18, _⟩ => ⟨S8x80x8x256, .f32⟩
  | .local _ .vmem, ⟨19, _⟩ => ⟨S8x80x8x256, .f32⟩
  | .local _ .vmem, ⟨20, _⟩ => ⟨S80x8x256, .f32⟩
  | _, _ => ⟨S2x128x40x40x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨2, ![2, 100], ![false, false]⟩

@[reducible] def k0_t1_loop : Scf.Loop 32 :=
  let c0_i32_160 : BitVec 32 := 0#32
  let c20_i32 : BitVec 32 := 20#32
  let v286 : BitVec 32 := Scalar.addi c0_i32_160 c20_i32
  let c1_i32 : BitVec 32 := 1#32
  ⟨c0_i32_160, v286, c1_i32⟩
def k0_off1 (k0_t1 : Fin k0_t1_loop.trips) (c0_i32_198 : BitVec 32) : Fin 4 → Nat :=
  let c0_199 : Index := 0#32
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v330 : Index := Scalar.indexCast v329
  let c0_200 : Index := 0#32
  let c0_201 : Index := 0#32
  ![0, v330.toNat, 0, 0]
def k0_off2 (k0_t1 : Fin k0_t1_loop.trips) (c0_i32_198 : BitVec 32) : Fin 4 → Nat :=
  let c1_208 : Index := 1#32
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v342 : Index := Scalar.indexCast v329
  let c0_209 : Index := 0#32
  let c0_210 : Index := 0#32
  ![1, v342.toNat, 0, 0]
def k0_off3 (k0_t1 : Fin k0_t1_loop.trips) (c0_i32_198 : BitVec 32) : Fin 4 → Nat :=
  let c2_217 : Index := 2#32
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v355 : Index := Scalar.indexCast v329
  let c0_218 : Index := 0#32
  let c0_219 : Index := 0#32
  ![2, v355.toNat, 0, 0]
def k0_off4 (k0_t1 : Fin k0_t1_loop.trips) (c0_i32_198 : BitVec 32) : Fin 4 → Nat :=
  let c3_226 : Index := 3#32
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v368 : Index := Scalar.indexCast v329
  let c0_227 : Index := 0#32
  let c0_228 : Index := 0#32
  ![3, v368.toNat, 0, 0]
def k0_off5 (k0_t1 : Fin k0_t1_loop.trips) (c0_i32_198 : BitVec 32) : Fin 4 → Nat :=
  let c4_235 : Index := 4#32
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v381 : Index := Scalar.indexCast v329
  let c0_236 : Index := 0#32
  let c0_237 : Index := 0#32
  ![4, v381.toNat, 0, 0]
def k0_off6 (k0_t1 : Fin k0_t1_loop.trips) (c0_i32_198 : BitVec 32) : Fin 4 → Nat :=
  let c5_244 : Index := 5#32
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v394 : Index := Scalar.indexCast v329
  let c0_245 : Index := 0#32
  let c0_246 : Index := 0#32
  ![5, v394.toNat, 0, 0]
def k0_off7 (k0_t1 : Fin k0_t1_loop.trips) (c0_i32_198 : BitVec 32) : Fin 4 → Nat :=
  let c6_253 : Index := 6#32
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v407 : Index := Scalar.indexCast v329
  let c0_254 : Index := 0#32
  let c0_255 : Index := 0#32
  ![6, v407.toNat, 0, 0]
def k0_off8 (k0_t1 : Fin k0_t1_loop.trips) (c0_i32_198 : BitVec 32) : Fin 4 → Nat :=
  let c7_262 : Index := 7#32
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v420 : Index := Scalar.indexCast v329
  let c0_263 : Index := 0#32
  let c0_264 : Index := 0#32
  ![7, v420.toNat, 0, 0]
def k0_off9 (k0_t1 : Fin k0_t1_loop.trips) (c0_i32_198 : BitVec 32) : Fin 3 → Nat :=
  let c0_i32_160 : BitVec 32 := 0#32
  let c1_i32 : BitVec 32 := 1#32
  let arg21 : BitVec 32 := Scf.iv c0_i32_160 c1_i32 k0_t1
  let c4_i32 : BitVec 32 := 4#32
  let v328 : BitVec 32 := Scalar.muli arg21 c4_i32
  let v329 : BitVec 32 := Scalar.addi v328 c0_i32_198
  let v433 : Index := Scalar.indexCast v329
  let c0_271 : Index := 0#32
  let c0_272 : Index := 0#32
  ![v433.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S80x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S80x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S2x128x40x40x40 : Shape := ⟨5, ![2, 128, 40, 40, 40]⟩
abbrev S128 : Shape := ⟨1, ![128]⟩
abbrev S512x128 : Shape := ⟨2, ![512, 128]⟩
abbrev S256x4 : Shape := ⟨2, ![256, 4]⟩
abbrev S256 : Shape := ⟨1, ![256]⟩
abbrev S24x256 : Shape := ⟨2, ![24, 256]⟩
abbrev S256x8 : Shape := ⟨2, ![256, 8]⟩
abbrev S128x256 : Shape := ⟨2, ![128, 256]⟩
abbrev S2x128x20x2x20x2x20x2 : Shape := ⟨8, ![2, 128, 20, 2, 20, 2, 20, 2]⟩
abbrev S2x2x2x2x128x20x20x20 : Shape := ⟨8, ![2, 2, 2, 2, 128, 20, 20, 20]⟩
abbrev S16x128x8000 : Shape := ⟨3, ![16, 128, 8000]⟩
abbrev S16x8000x128 : Shape := ⟨3, ![16, 8000, 128]⟩
abbrev S_ : Shape := ⟨0, ![]⟩
abbrev S16x8000 : Shape := ⟨2, ![16, 8000]⟩
abbrev S16x8000x1 : Shape := ⟨3, ![16, 8000, 1]⟩
abbrev S1x1x128 : Shape := ⟨3, ![1, 1, 128]⟩
abbrev S16x8000x512 : Shape := ⟨3, ![16, 8000, 512]⟩
abbrev S16x8000x256 : Shape := ⟨3, ![16, 8000, 256]⟩
abbrev S16x8003x256 : Shape := ⟨3, ![16, 8003, 256]⟩
abbrev S256x1 : Shape := ⟨2, ![256, 1]⟩
abbrev S1x1x256 : Shape := ⟨3, ![1, 1, 256]⟩
abbrev S16x8000x24 : Shape := ⟨3, ![16, 8000, 24]⟩
abbrev S16x8000x8 : Shape := ⟨3, ![16, 8000, 8]⟩
abbrev S16x256x8 : Shape := ⟨3, ![16, 256, 8]⟩
abbrev S8000x16x256 : Shape := ⟨3, ![8000, 16, 256]⟩
abbrev S8000x16x8 : Shape := ⟨3, ![8000, 16, 8]⟩
abbrev S1x16x256 : Shape := ⟨3, ![1, 16, 256]⟩
abbrev S16x256 : Shape := ⟨2, ![16, 256]⟩
abbrev S1x16x8 : Shape := ⟨3, ![1, 16, 8]⟩
abbrev S16x8 : Shape := ⟨2, ![16, 8]⟩
abbrev S16x256x1 : Shape := ⟨3, ![16, 256, 1]⟩
abbrev S1x256x8 : Shape := ⟨3, ![1, 256, 8]⟩
abbrev S16x1x8 : Shape := ⟨3, ![16, 1, 8]⟩

abbrev nBuf : Space → Nat
  | .hbm => 206
  | .vmem => 0
  | .smem => 0
  | _ => 0

abbrev hbmTy0_0 (i : Nat) : BufTy := match i % 128 with
  | 0 => ⟨S2x128x40x40x40, .f32⟩
  | 1 => ⟨S128, .f32⟩
  | 2 => ⟨S128, .f32⟩
  | 3 => ⟨S512x128, .f32⟩
  | 4 => ⟨S256x4, .f32⟩
  | 5 => ⟨S256, .f32⟩
  | 6 => ⟨S24x256, .f32⟩
  | 7 => ⟨S256x8, .f32⟩
  | 8 => ⟨S256, .f32⟩
  | 9 => ⟨S256x8, .f32⟩
  | 10 => ⟨S256, .f32⟩
  | 11 => ⟨S128x256, .f32⟩
  | 12 => ⟨S2x128x20x2x20x2x20x2, .f32⟩
  | 13 => ⟨S2x2x2x2x128x20x20x20, .f32⟩
  | 14 => ⟨S16x128x8000, .f32⟩
  | 15 => ⟨S16x8000x128, .f32⟩
  | 16 => ⟨S_, .f32⟩
  | 17 => ⟨S16x8000, .f32⟩
  | 18 => ⟨S16x8000x1, .f32⟩
  | 19 => ⟨S_, .f32⟩
  | 20 => ⟨S16x8000x1, .f32⟩
  | 21 => ⟨S16x8000x1, .f32⟩
  | 22 => ⟨S_, .i32⟩
  | 23 => ⟨S_, .f32⟩
  | 24 => ⟨S16x8000, .f32⟩
  | 25 => ⟨S16x8000x1, .f32⟩
  | 26 => ⟨S_, .f32⟩
  | 27 => ⟨S16x8000x1, .f32⟩
  | 28 => ⟨S16x8000x1, .f32⟩
  | 29 => ⟨S16x8000x128, .f32⟩
  | 30 => ⟨S16x8000x128, .f32⟩
  | 31 => ⟨S16x8000x128, .f32⟩
  | 32 => ⟨S_, .f32⟩
  | 33 => ⟨S_, .f32⟩
  | 34 => ⟨S_, .f32⟩
  | 35 => ⟨S_, .f32⟩
  | 36 => ⟨S16x8000, .f32⟩
  | 37 => ⟨S16x8000x1, .f32⟩
  | 38 => ⟨S16x8000x1, .f32⟩
  | 39 => ⟨S16x8000x1, .f32⟩
  | 40 => ⟨S_, .f32⟩
  | 41 => ⟨S_, .i1⟩
  | 42 => ⟨S_, .f32⟩
  | 43 => ⟨S_, .f32⟩
  | 44 => ⟨S16x8000x1, .f32⟩
  | 45 => ⟨S16x8000x1, .f32⟩
  | 46 => ⟨S16x8000x128, .f32⟩
  | 47 => ⟨S16x8000x128, .f32⟩
  | 48 => ⟨S_, .f32⟩
  | 49 => ⟨S16x8000x1, .f32⟩
  | 50 => ⟨S16x8000x1, .f32⟩
  | 51 => ⟨S16x8000x1, .f32⟩
  | 52 => ⟨S16x8000x128, .f32⟩
  | 53 => ⟨S16x8000x128, .f32⟩
  | 54 => ⟨S1x1x128, .f32⟩
  | 55 => ⟨S16x8000x128, .f32⟩
  | 56 => ⟨S16x8000x128, .f32⟩
  | 57 => ⟨S1x1x128, .f32⟩
  | 58 => ⟨S16x8000x128, .f32⟩
  | 59 => ⟨S16x8000x128, .f32⟩
  | 60 => ⟨S16x8000x512, .f32⟩
  | 61 => ⟨S16x8000x256, .f32⟩
  | 62 => ⟨S16x8000x256, .f32⟩
  | 63 => ⟨S_, .i32⟩
  | 64 => ⟨S_, .f32⟩
  | 65 => ⟨S16x8003x256, .f32⟩
  | 66 => ⟨S16x8000x256, .f32⟩
  | 67 => ⟨S256x1, .f32⟩
  | 68 => ⟨S256, .f32⟩
  | 69 => ⟨S1x1x256, .f32⟩
  | 70 => ⟨S16x8000x256, .f32⟩
  | 71 => ⟨S16x8000x256, .f32⟩
  | 72 => ⟨S1x1x256, .f32⟩
  | 73 => ⟨S16x8000x256, .f32⟩
  | 74 => ⟨S16x8000x256, .f32⟩
  | 75 => ⟨S16x8000x256, .f32⟩
  | 76 => ⟨S256x1, .f32⟩
  | 77 => ⟨S256, .f32⟩
  | 78 => ⟨S1x1x256, .f32⟩
  | 79 => ⟨S16x8000x256, .f32⟩
  | 80 => ⟨S16x8000x256, .f32⟩
  | 81 => ⟨S16x8000x256, .f32⟩
  | 82 => ⟨S16x8000x256, .f32⟩
  | 83 => ⟨S256x1, .f32⟩
  | 84 => ⟨S256, .f32⟩
  | 85 => ⟨S1x1x256, .f32⟩
  | 86 => ⟨S16x8000x256, .f32⟩
  | 87 => ⟨S16x8000x256, .f32⟩
  | 88 => ⟨S16x8000x256, .f32⟩
  | 89 => ⟨S16x8000x256, .f32⟩
  | 90 => ⟨S256x1, .f32⟩
  | 91 => ⟨S256, .f32⟩
  | 92 => ⟨S1x1x256, .f32⟩
  | 93 => ⟨S16x8000x256, .f32⟩
  | 94 => ⟨S16x8000x256, .f32⟩
  | 95 => ⟨S16x8000x256, .f32⟩
  | 96 => ⟨S16x8000x256, .f32⟩
  | 97 => ⟨S16x8000x256, .f32⟩
  | 98 => ⟨S_, .f32⟩
  | 99 => ⟨S16x8000x256, .f32⟩
  | 100 => ⟨S16x8000x256, .f32⟩
  | 101 => ⟨S_, .f32⟩
  | 102 => ⟨S16x8000x256, .f32⟩
  | 103 => ⟨S16x8000x256, .f32⟩
  | 104 => ⟨S16x8000x256, .f32⟩
  | 105 => ⟨S16x8000x24, .f32⟩
  | 106 => ⟨S16x8000x8, .f32⟩
  | 107 => ⟨S16x8000x8, .f32⟩
  | 108 => ⟨S16x8000x8, .f32⟩
  | 109 => ⟨S16x8000x256, .f32⟩
  | 110 => ⟨S1x1x256, .f32⟩
  | 111 => ⟨S16x8000x256, .f32⟩
  | 112 => ⟨S16x8000x256, .f32⟩
  | 113 => ⟨S_, .f32⟩
  | 114 => ⟨S16x8000x256, .f32⟩
  | 115 => ⟨S16x8000x256, .f32⟩
  | 116 => ⟨S16x8000x256, .f32⟩
  | 117 => ⟨S16x8000x256, .f32⟩
  | 118 => ⟨S16x8000x256, .i1⟩
  | 119 => ⟨S16x8000x256, .f32⟩
  | 120 => ⟨S16x8000x256, .f32⟩
  | 121 => ⟨S16x8000x256, .f32⟩
  | 122 => ⟨S16x8000x256, .f32⟩
  | 123 => ⟨S16x8000x256, .f32⟩
  | 124 => ⟨S16x8000x256, .f32⟩
  | 125 => ⟨S16x8000x256, .f32⟩
  | 126 => ⟨S16x8000x256, .f32⟩
  | 127 => ⟨S256x8, .f32⟩
  | _ => ⟨S2x128x40x40x40, .f32⟩

abbrev hbmTy0_1 (i : Nat) : BufTy := match i % 128 with
  | 0 => ⟨S256x8, .f32⟩
  | 1 => ⟨S_, .f32⟩
  | 2 => ⟨S16x256x8, .f32⟩
  | 3 => ⟨S8000x16x256, .f32⟩
  | 4 => ⟨S8000x16x8, .f32⟩
  | 5 => ⟨S8000x16x8, .f32⟩
  | 6 => ⟨S8000x16x256, .f32⟩
  | 7 => ⟨S_, .f32⟩
  | 8 => ⟨S8000x16x256, .f32⟩
  | 9 => ⟨S_, .i32⟩
  | 10 => ⟨S8000x16x256, .f32⟩
  | 11 => ⟨S8000x16x8, .f32⟩
  | 12 => ⟨S8000x16x8, .f32⟩
  | 13 => ⟨S8000x16x256, .f32⟩
  | 14 => ⟨S256x8, .f32⟩
  | 15 => ⟨S_, .i32⟩
  | 16 => ⟨S16x256x8, .f32⟩
  | 17 => ⟨S8000x16x256, .f32⟩
  | 18 => ⟨S_, .i32⟩
  | 19 => ⟨S_, .i1⟩
  | 20 => ⟨S_, .i32⟩
  | 21 => ⟨S_, .i32⟩
  | 22 => ⟨S1x16x256, .f32⟩
  | 23 => ⟨S16x256, .f32⟩
  | 24 => ⟨S_, .i32⟩
  | 25 => ⟨S_, .i32⟩
  | 26 => ⟨S1x16x8, .f32⟩
  | 27 => ⟨S16x8, .f32⟩
  | 28 => ⟨S_, .i32⟩
  | 29 => ⟨S_, .i32⟩
  | 30 => ⟨S1x16x8, .f32⟩
  | 31 => ⟨S16x8, .f32⟩
  | 32 => ⟨S_, .i32⟩
  | 33 => ⟨S_, .i32⟩
  | 34 => ⟨S1x16x256, .f32⟩
  | 35 => ⟨S16x256, .f32⟩
  | 36 => ⟨S16x256x1, .f32⟩
  | 37 => ⟨S1x256x8, .f32⟩
  | 38 => ⟨S16x256x8, .f32⟩
  | 39 => ⟨S16x256x8, .f32⟩
  | 40 => ⟨S16x256x8, .f32⟩
  | 41 => ⟨S16x256x8, .f32⟩
  | 42 => ⟨S16x256x8, .f32⟩
  | 43 => ⟨S16x256, .f32⟩
  | 44 => ⟨S16x256x1, .f32⟩
  | 45 => ⟨S16x1x8, .f32⟩
  | 46 => ⟨S16x256x8, .f32⟩
  | 47 => ⟨S16x256x8, .f32⟩
  | 48 => ⟨S16x256x8, .f32⟩
  | 49 => ⟨S16x256x8, .f32⟩
  | 50 => ⟨S16x256, .f32⟩
  | 51 => ⟨S1x16x256, .f32⟩
  | 52 => ⟨S_, .i32⟩
  | 53 => ⟨S_, .i32⟩
  | 54 => ⟨S8000x16x256, .f32⟩
  | 55 => ⟨S_, .i32⟩
  | 56 => ⟨S_, .i32⟩
  | 57 => ⟨S16x8000x256, .f32⟩
  | 58 => ⟨S1x1x256, .f32⟩
  | 59 => ⟨S16x8000x256, .f32⟩
  | 60 => ⟨S16x8000x256, .f32⟩
  | 61 => ⟨S16x8000x256, .f32⟩
  | 62 => ⟨S16x8000x256, .f32⟩
  | 63 => ⟨S16x8000x256, .f32⟩
  | 64 => ⟨S_, .f32⟩
  | 65 => ⟨S16x8000x256, .f32⟩
  | 66 => ⟨S16x8000x256, .f32⟩
  | 67 => ⟨S_, .f32⟩
  | 68 => ⟨S16x8000x256, .f32⟩
  | 69 => ⟨S16x8000x256, .f32⟩
  | 70 => ⟨S16x8000x256, .f32⟩
  | 71 => ⟨S16x8000x256, .f32⟩
  | 72 => ⟨S16x8000x128, .f32⟩
  | 73 => ⟨S16x128x8000, .f32⟩
  | 74 => ⟨S2x2x2x2x128x20x20x20, .f32⟩
  | 75 => ⟨S2x128x20x2x20x2x20x2, .f32⟩
  | 76 => ⟨S2x128x40x40x40, .f32⟩
  | 77 => ⟨S2x128x40x40x40, .f32⟩
  | _ => ⟨S2x128x40x40x40, .f32⟩

abbrev hbmTy (i : Nat) : BufTy := match i / 128 with
  | 0 => hbmTy0_0 i
  | 1 => hbmTy0_1 i
  | _ => ⟨S2x128x40x40x40, .f32⟩

abbrev bufTy : (tb : Table) → Fin (tcTables nBuf tb) → BufTy
  | .hbm, ⟨i, _⟩ => hbmTy i
  | _, _ => ⟨S2x128x40x40x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_v12 : Ref sig .tc := ⟨.hbm, 39, rfl⟩
abbrev main_call0_cst_3 : Ref sig .tc := ⟨.hbm, 40, rfl⟩
abbrev main_call0_v13 : Ref sig .tc := ⟨.hbm, 41, rfl⟩
abbrev main_call0_cst_4 : Ref sig .tc := ⟨.hbm, 42, rfl⟩
abbrev main_call0_call0_v0 : Ref sig .tc := ⟨.hbm, 43, rfl⟩
abbrev main_call0_call0_v1 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_cst_1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_2 : Ref sig .tc := ⟨.hbm, 63, rfl⟩
abbrev main_call1_v0 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_call2_v0 : Ref sig .tc := ⟨.hbm, 96, rfl⟩
abbrev main_call2_v1 : Ref sig .tc := ⟨.hbm, 97, rfl⟩
abbrev main_call2_cst : Ref sig .tc := ⟨.hbm, 98, rfl⟩
abbrev main_call2_v2 : Ref sig .tc := ⟨.hbm, 99, rfl⟩
abbrev main_call2_v3 : Ref sig .tc := ⟨.hbm, 100, rfl⟩
abbrev main_call2_cst_0 : Ref sig .tc := ⟨.hbm, 101, rfl⟩
abbrev main_call2_v4 : Ref sig .tc := ⟨.hbm, 102, rfl⟩
abbrev main_call2_v5 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_call3_cst : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_call3_v3 : Ref sig .tc := ⟨.hbm, 117, rfl⟩
abbrev main_call3_v4 : Ref sig .tc := ⟨.hbm, 118, rfl⟩
abbrev main_call3_v5 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_cst_3 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_4 : Ref sig .tc := ⟨.hbm, 135, rfl⟩
abbrev main_v73 : Ref sig .tc := ⟨.hbm, 136, rfl⟩
abbrev main_c_5 : Ref sig .tc := ⟨.hbm, 137, rfl⟩
abbrev main_v74_0 : Ref sig .tc := ⟨.hbm, 138, rfl⟩
abbrev main_v74_1 : Ref sig .tc := ⟨.hbm, 139, rfl⟩
abbrev main_v74_2 : Ref sig .tc := ⟨.hbm, 140, rfl⟩
abbrev main_v74_3 : Ref sig .tc := ⟨.hbm, 141, rfl⟩
abbrev main_v74_4 : Ref sig .tc := ⟨.hbm, 142, rfl⟩
abbrev main_v74_5 : Ref sig .tc := ⟨.hbm, 143, rfl⟩
abbrev main_v74_6 : Ref sig .tc := ⟨.hbm, 144, rfl⟩
abbrev main_v74_7 : Ref sig .tc := ⟨.hbm, 145, rfl⟩
abbrev main_while0c_c_13 : Ref sig .tc := ⟨.hbm, 146, rfl⟩
abbrev main_while0c_v88 : Ref sig .tc := ⟨.hbm, 147, rfl⟩
abbrev main_while0b_call4_c : Ref sig .tc := ⟨.hbm, 148, rfl⟩
abbrev main_while0b_call4_c_0 : Ref sig .tc := ⟨.hbm, 149, rfl⟩
abbrev main_while0b_call4_v0 : Ref sig .tc := ⟨.hbm, 150, rfl⟩
abbrev main_while0b_v88 : Ref sig .tc := ⟨.hbm, 151, rfl⟩
abbrev main_while0b_call5_c : Ref sig .tc := ⟨.hbm, 152, rfl⟩
abbrev main_while0b_call5_c_0 : Ref sig .tc := ⟨.hbm, 153, rfl⟩
abbrev main_while0b_call5_v0 : Ref sig .tc := ⟨.hbm, 154, rfl⟩
abbrev main_while0b_v89 : Ref sig .tc := ⟨.hbm, 155, rfl⟩
abbrev main_while0b_call6_c : Ref sig .tc := ⟨.hbm, 156, rfl⟩
abbrev main_while0b_call6_c_0 : Ref sig .tc := ⟨.hbm, 157, rfl⟩
abbrev main_while0b_call6_v0 : Ref sig .tc := ⟨.hbm, 158, rfl⟩
abbrev main_while0b_v90 : Ref sig .tc := ⟨.hbm, 159, rfl⟩
abbrev main_while0b_call7_c : Ref sig .tc := ⟨.hbm, 160, rfl⟩
abbrev main_while0b_call7_c_0 : Ref sig .tc := ⟨.hbm, 161, rfl⟩
abbrev main_while0b_call7_v0 : Ref sig .tc := ⟨.hbm, 162, rfl⟩
abbrev main_while0b_v91 : Ref sig .tc := ⟨.hbm, 163, rfl⟩
abbrev main_while0b_v92 : Ref sig .tc := ⟨.hbm, 164, rfl⟩
abbrev main_while0b_v93 : Ref sig .tc := ⟨.hbm, 165, rfl⟩
abbrev main_while0b_v94 : Ref sig .tc := ⟨.hbm, 166, rfl⟩
abbrev main_while0b_v95 : Ref sig .tc := ⟨.hbm, 167, rfl⟩
abbrev main_while0b_v96 : Ref sig .tc := ⟨.hbm, 168, rfl⟩
abbrev main_while0b_v97 : Ref sig .tc := ⟨.hbm, 169, rfl⟩
abbrev main_while0b_v98 : Ref sig .tc := ⟨.hbm, 170, rfl⟩
abbrev main_while0b_v99 : Ref sig .tc := ⟨.hbm, 171, rfl⟩
abbrev main_while0b_v100 : Ref sig .tc := ⟨.hbm, 172, rfl⟩
abbrev main_while0b_v101 : Ref sig .tc := ⟨.hbm, 173, rfl⟩
abbrev main_while0b_v102 : Ref sig .tc := ⟨.hbm, 174, rfl⟩
abbrev main_while0b_v103 : Ref sig .tc := ⟨.hbm, 175, rfl⟩
abbrev main_while0b_v104 : Ref sig .tc := ⟨.hbm, 176, rfl⟩
abbrev main_while0b_v105 : Ref sig .tc := ⟨.hbm, 177, rfl⟩
abbrev main_while0b_v106 : Ref sig .tc := ⟨.hbm, 178, rfl⟩
abbrev main_while0b_call8_v0 : Ref sig .tc := ⟨.hbm, 179, rfl⟩
abbrev main_while0b_call8_c : Ref sig .tc := ⟨.hbm, 180, rfl⟩
abbrev main_while0b_call8_c_0 : Ref sig .tc := ⟨.hbm, 181, rfl⟩
abbrev main_while0b_v107 : Ref sig .tc := ⟨.hbm, 182, rfl⟩
abbrev main_while0b_c_13 : Ref sig .tc := ⟨.hbm, 183, rfl⟩
abbrev main_while0b_v108 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_call9_v0 : Ref sig .tc := ⟨.hbm, 190, rfl⟩
abbrev main_call9_v1 : Ref sig .tc := ⟨.hbm, 191, rfl⟩
abbrev main_call9_cst : Ref sig .tc := ⟨.hbm, 192, rfl⟩
abbrev main_call9_v2 : Ref sig .tc := ⟨.hbm, 193, rfl⟩
abbrev main_call9_v3 : Ref sig .tc := ⟨.hbm, 194, rfl⟩
abbrev main_call9_cst_0 : Ref sig .tc := ⟨.hbm, 195, rfl⟩
abbrev main_call9_v4 : Ref sig .tc := ⟨.hbm, 196, rfl⟩
abbrev main_call9_v5 : Ref sig .tc := ⟨.hbm, 197, rfl⟩
abbrev main_v80 : Ref sig .tc := ⟨.hbm, 198, rfl⟩
abbrev main_v81 : Ref sig .tc := ⟨.hbm, 199, rfl⟩
abbrev main_v82 : Ref sig .tc := ⟨.hbm, 200, rfl⟩
abbrev main_v83 : Ref sig .tc := ⟨.hbm, 201, rfl⟩
abbrev main_v84 : Ref sig .tc := ⟨.hbm, 202, rfl⟩
abbrev main_v85 : Ref sig .tc := ⟨.hbm, 203, rfl⟩
abbrev main_v86 : Ref sig .tc := ⟨.hbm, 204, rfl⟩
abbrev main_v87 : Ref sig .tc := ⟨.hbm, 205, rfl⟩

abbrev nD : Nat := 1
abbrev τ : Topo := Topo.v7x

variable {F : FTy → Type} [FloatOps F]

abbrev main_while0_count : Scf.Loop 32 := ⟨0#32, 8000#32, 1#32⟩
-- ==== Proof.KRun.lean ====
module

public import proofs.«01_k».proof.Proof.Gen.KernelIdeal.Frame
public import proofs.«01_k».proof.Proof.Gen.KernelIdeal.Loops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition under which a grid point starts a new sequence: its second coordinate is zero. -/
abbrev cond (i : grid0.Coords) : Prop :=
  (Scalar.cmpi .ne (Scalar.extui (Scalar.cmpi .eq (BitVec.ofNat 32 (i 1).val) 0#32)) 0#32) = 1#1

set_option maxHeartbeats 2000000 in
/-- The body's run where no new sequence starts, from any contents of its twelve inputs, its output and its scratch buffers:
    every buffer it writes ends at the value it stores there. -/
noncomputable def bodyRun (c : Dev nD) (i : grid0.Coords) (arg2 : Memref sig .tc .vmem S80x8x128 .f32) (harg2 : arg2.IsWhole) (arg3 : Memref sig .tc .vmem S128x512 .f32) (harg3 : arg3.IsWhole) (arg4 : Memref sig .tc .vmem S256x24 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S4x256 .f32) (harg7 : arg7.IsWhole) (arg8 : Memref sig .tc .vmem S1x1x256 .f32) (harg8 : arg8.IsWhole) (arg9 : Memref sig .tc .vmem S1x1x128 .f32) (harg9 : arg9.IsWhole) (arg10 : Memref sig .tc .vmem S1x1x128 .f32) (harg10 : arg10.IsWhole) (arg11 : Memref sig .tc .vmem S1x1x256 .f32) (harg11 : arg11.IsWhole) (arg12 : Memref sig .tc .vmem S8x256 .f32) (harg12 : arg12.IsWhole) (arg13 : Memref sig .tc .vmem S256x128 .f32) (harg13 : arg13.IsWhole) (arg14 : Memref sig .tc .vmem S80x8x128 .f32) (harg14 : arg14.IsWhole) (arg15 : Memref sig .tc .vmem S3x8x256 .f32) (harg15 : arg15.IsWhole) (arg16 : Memref sig .tc .vmem S8x8x256 .f32) (harg16 : arg16.IsWhole) (arg17 : Memref sig .tc .vmem S8x80x8x256 .f32) (harg17 : arg17.IsWhole) (arg18 : Memref sig .tc .vmem S8x80x8x256 .f32) (harg18 : arg18.IsWhole) (arg19 : Memref sig .tc .vmem S8x80x8x256 .f32) (harg19 : arg19.IsWhole) (arg20 : Memref sig .tc .vmem S80x8x256 .f32) (harg20 : arg20.IsWhole) (hc0 : ¬ cond i)
    (x0 : Vec F S80x8x128 .f32) (x1 : Vec F S128x512 .f32) (x2 : Vec F S256x24 .f32) (x3 : Vec F S8x256 .f32) (x4 : Vec F S1x256 .f32) (x5 : Vec F S4x256 .f32) (x6 : Vec F S1x1x256 .f32) (x7 : Vec F S1x1x128 .f32) (x8 : Vec F S1x1x128 .f32) (x9 : Vec F S1x1x256 .f32) (x10 : Vec F S8x256 .f32) (x11 : Vec F S256x128 .f32) (xs0 : Vec F S3x8x256 .f32) (xs1 : Vec F S8x8x256 .f32) (xs5 : Vec F S80x8x256 .f32) :
    Σ' (L12 : List (View.Piece (Elt F) S80x8x128 .f32)), Σ' (LS0 : List (View.Piece (Elt F) S3x8x256 .f32)), { LS1 : List (View.Piece (Elt F) S8x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xs0 ∗ owns (c : Thread nD τ) arg16 fullShare xs1 ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs5
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__body_eq_skeleton]; unfold cc0__body_skel
    simp only [k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs0, %hfs0, HS0⟩, ⟨%fs1, %hfs1, HS1⟩, ⟨%ds2, %fs2, -, HS2⟩, ⟨%ds3, %fs3, -, HS3⟩, ⟨%ds4, %fs4, -, HS4⟩, ⟨%fs5, %hfs5, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hfs0; obtain rfl := harg16.eq_unread hfs1; obtain rfl := harg20.eq_unread hfs5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [HS0]; · iexists _; iexact HS0
    isplitl [HS1]; · iexists _; iexact HS1
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

end Cert.KernelIdeal.Run

end
-- ==== Proof.KFrame.lean ====
module

public import proofs.«01_k».proof.Proof.KRun
public import Idealize.ShloMosaic.Lib.Claim
public import Idealize.ShloMosaic.Lib.HeldBySlice
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The memrefs one call of the kernel body gets: its twelve inputs, its output and its six scratch buffers,
    each a whole buffer. -/
structure Args where
  a2 : Memref sig .tc .vmem S80x8x128 .f32
  h2 : a2.IsWhole
  a3 : Memref sig .tc .vmem S128x512 .f32
  h3 : a3.IsWhole
  a4 : Memref sig .tc .vmem S256x24 .f32
  h4 : a4.IsWhole
  a5 : Memref sig .tc .vmem S8x256 .f32
  h5 : a5.IsWhole
  a6 : Memref sig .tc .vmem S1x256 .f32
  h6 : a6.IsWhole
  a7 : Memref sig .tc .vmem S4x256 .f32
  h7 : a7.IsWhole
  a8 : Memref sig .tc .vmem S1x1x256 .f32
  h8 : a8.IsWhole
  a9 : Memref sig .tc .vmem S1x1x128 .f32
  h9 : a9.IsWhole
  a10 : Memref sig .tc .vmem S1x1x128 .f32
  h10 : a10.IsWhole
  a11 : Memref sig .tc .vmem S1x1x256 .f32
  h11 : a11.IsWhole
  a12 : Memref sig .tc .vmem S8x256 .f32
  h12 : a12.IsWhole
  a13 : Memref sig .tc .vmem S256x128 .f32
  h13 : a13.IsWhole
  a14 : Memref sig .tc .vmem S80x8x128 .f32
  h14 : a14.IsWhole
  a15 : Memref sig .tc .vmem S3x8x256 .f32
  h15 : a15.IsWhole
  a16 : Memref sig .tc .vmem S8x8x256 .f32
  h16 : a16.IsWhole
  a17 : Memref sig .tc .vmem S8x80x8x256 .f32
  h17 : a17.IsWhole
  a18 : Memref sig .tc .vmem S8x80x8x256 .f32
  h18 : a18.IsWhole
  a19 : Memref sig .tc .vmem S8x80x8x256 .f32
  h19 : a19.IsWhole
  a20 : Memref sig .tc .vmem S80x8x256 .f32
  h20 : a20.IsWhole

/-- The blocks of the twelve inputs at one grid point. -/
structure Blk (F : FTy → Type) where
  x0 : Vec F S80x8x128 .f32
  x1 : Vec F S128x512 .f32
  x2 : Vec F S256x24 .f32
  x3 : Vec F S8x256 .f32
  x4 : Vec F S1x256 .f32
  x5 : Vec F S4x256 .f32
  x6 : Vec F S1x1x256 .f32
  x7 : Vec F S1x1x128 .f32
  x8 : Vec F S1x1x128 .f32
  x9 : Vec F S1x1x256 .f32
  x10 : Vec F S8x256 .f32
  x11 : Vec F S256x128 .f32

/-- The kernel body on these memrefs. -/
abbrev Args.body (A : Args) (i : grid0.Coords) : Prog (TpuEff nD τ sig (Elt F) Λ₀ .tc) PUnit :=
  cc0__body i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20

/-- A grid coordinate at which no new sequence starts. -/
abbrev i1 : grid0.Coords := grid0.coords ⟨1, by decide⟩

/-- There the condition fails. -/
theorem not_cond_i1 : ¬ cond i1 := by decide +kernel

/-- The run of the body from carried contents `T` and `H`, at a coordinate where no new sequence starts. -/
abbrev Args.run (c : Dev nD) (A : Args) (X : Blk F) (T : Vec F S3x8x256 .f32) (H : Vec F S8x8x256 .f32)
    (Y : Vec F S80x8x256 .f32) :=
  bodyRun c i1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 not_cond_i1 X.x0 X.x1 X.x2 X.x3 X.x4 X.x5 X.x6 X.x7 X.x8 X.x9 X.x10 X.x11 T H Y

/-- The inputs' memrefs, each holding its block. -/
abbrev Args.ins (c : Dev nD) (A : Args) (X : Blk F) : sProp 𝕄 :=
  iprop(owns (c : Thread nD τ) A.a2 fullShare X.x0 ∗ owns (c : Thread nD τ) A.a3 fullShare X.x1 ∗ owns (c : Thread nD τ) A.a4 fullShare X.x2 ∗ owns (c : Thread nD τ) A.a5 fullShare X.x3 ∗ owns (c : Thread nD τ) A.a6 fullShare X.x4 ∗ owns (c : Thread nD τ) A.a7 fullShare X.x5 ∗ owns (c : Thread nD τ) A.a8 fullShare X.x6 ∗ owns (c : Thread nD τ) A.a9 fullShare X.x7 ∗ owns (c : Thread nD τ) A.a10 fullShare X.x8 ∗ owns (c : Thread nD τ) A.a11 fullShare X.x9 ∗ owns (c : Thread nD τ) A.a12 fullShare X.x10 ∗ owns (c : Thread nD τ) A.a13 fullShare X.x11)

/-- The two stores that start a sequence: zeros into both carried buffers. -/
abbrev Args.fill (A : Args) : Prog (TpuEff nD τ sig (Elt F) Λ₀ .tc) PUnit := do
  let _v329 : Vec F S3x8x256 .f32 ← Prog.lift (.load A.a15 (Rect.unit (s := S3x8x256) ![0, 0, 0] S3x8x256.size inb_S3x8x256_S3x8x256_0_0_0).toLoadRect (View.loadsAt_vmem h_S3x8x256))
  Prog.lift (.store A.a15 (Rect.unit (s := S3x8x256) ![0, 0, 0] S3x8x256.size inb_S3x8x256_S3x8x256_0_0_0) (k0_pay54 (F := F)) Finset.univ (View.stores_vmem_bits_univ h_S3x8x256 rfl) (.inl rfl))
  let _v333 : Vec F S8x8x256 .f32 ← Prog.lift (.load A.a16 (Rect.unit (s := S8x8x256) ![0, 0, 0] S8x8x256.size inb_S8x8x256_S8x8x256_0_0_0).toLoadRect (View.loadsAt_vmem h_S8x8x256))
  Prog.lift (.store A.a16 (Rect.unit (s := S8x8x256) ![0, 0, 0] S8x8x256.size inb_S8x8x256_S8x8x256_0_0_0) (k0_pay55 (F := F)) Finset.univ (View.stores_vmem_bits_univ h_S8x8x256 rfl) (.inl rfl))
  pure ⟨⟩

/-- Where no new sequence starts the body does the same at every coordinate. -/
theorem part13_neg (A : Args) (i : grid0.Coords) (h : ¬ cond i) :
    k0_part13_skel (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 = k0_part13_skel i1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 := by
  unfold k0_part13_skel
  dsimp only
  rw [dif_neg h, dif_neg not_cond_i1]

/-- Where a new sequence starts the body first fills the carried buffers, and then does what it does elsewhere. -/
theorem part13_pos (A : Args) (i : grid0.Coords) (h : cond i) :
    k0_part13_skel (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 = (A.fill >>= fun _ => k0_part13_skel i1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20) := by
  unfold k0_part13_skel
  dsimp only
  rw [dif_pos h, dif_neg not_cond_i1]
  rfl

/-- So does the whole body. -/
theorem body_neg (A : Args) (i : grid0.Coords) (h : ¬ cond i) : A.body (F := F) i = A.body i1 := by
  unfold Args.body
  rw [cc0__body_eq_skeleton]
  unfold cc0__body_skel
  rw [k0_part13_eq_skeleton, part13_neg A i h]
  rfl

/-- And the whole body, where a new sequence starts. -/
theorem body_pos (A : Args) (i : grid0.Coords) (h : cond i) : A.body (F := F) i = (A.fill >>= fun _ => A.body i1) := by
  unfold Args.body
  rw [cc0__body_eq_skeleton]
  unfold cc0__body_skel
  rw [k0_part13_eq_skeleton, part13_pos A i h]
  rw [bind_assoc]
  rfl

/-- The recurrence's loop writes every time step of its buffer, so what is read from it afterwards does not depend on
    what it held before. -/
theorem steps_indep (c : Dev nD) (A : Args) (X : Blk F) (T : Vec F S3x8x256 .f32) (H : Vec F S8x8x256 .f32)
    (Y Y' : Vec F S80x8x256 .f32) : (A.run c X T H Y).1 = (A.run c X T H Y').1 := by
  unfold Args.run bodyRun
  dsimp only
  unfold bodyRun.sl.v312
  rw [View.readAt_writes_eq_of_cover _ _ (A.h20.unread Y')]
  intro j
  refine View.cover_of_tiledL (s := S80x8x256) _ S1x8x256.size ?_ _
  sl_kernel_rfl

/-- Nor does what is left in the two carried buffers. -/
theorem carried_indep (c : Dev nD) (A : Args) (X : Blk F) (T : Vec F S3x8x256 .f32) (H : Vec F S8x8x256 .f32)
    (Y Y' : Vec F S80x8x256 .f32) : (A.run c X T H Y).2.1 = (A.run c X T H Y').2.1
      ∧ (A.run c X T H Y).2.2.1 = (A.run c X T H Y').2.2.1 := by
  unfold Args.run bodyRun
  dsimp only
  exact ⟨Eq.refl _, Eq.refl _⟩

/-- The output block is written everywhere. -/
theorem cover_out (c : Dev nD) (A : Args) (X : Blk F) (T : Vec F S3x8x256 .f32) (H : Vec F S8x8x256 .f32)
    (Y : Vec F S80x8x256 .f32) (y : S80x8x128.Idx) : ∃ pc ∈ (A.run c X T H Y).1, y ∈ pc.1.set :=
  View.cover_of_tiledL (A.run c X T H Y).1 S80x8x128.size (by sl_kernel_rfl) y

/-- The carried rows of the convolution's input are written everywhere. -/
theorem cover_tail (c : Dev nD) (A : Args) (X : Blk F) (T : Vec F S3x8x256 .f32) (H : Vec F S8x8x256 .f32)
    (Y : Vec F S80x8x256 .f32) (y : S3x8x256.Idx) : ∃ pc ∈ (A.run c X T H Y).2.1, y ∈ pc.1.set :=
  View.cover_of_tiledL (A.run c X T H Y).2.1 S3x8x256.size (by sl_kernel_rfl) y

/-- The carried state is written everywhere. -/
theorem cover_state (c : Dev nD) (A : Args) (X : Blk F) (T : Vec F S3x8x256 .f32) (H : Vec F S8x8x256 .f32)
    (Y : Vec F S80x8x256 .f32) (y : S8x8x256.Idx) : ∃ pc ∈ (A.run c X T H Y).2.2.1, y ∈ pc.1.set :=
  View.cover_of_tiledL (A.run c X T H Y).2.2.1 S1x8x256.size (by sl_kernel_rfl) y

/-- Some contents for the buffer of the recurrence's outputs: nothing depends on them. -/
abbrev anySteps : Vec F S80x8x256 .f32 := (Memref.whole cc0_scratch5 : Memref sig .tc .vmem S80x8x256 .f32).view.read (Elt F) (View.junk _)

/-- What one call of the body leaves in its output block. -/
def Args.outV (c : Dev nD) (A : Args) (X : Blk F) (T : Vec F S3x8x256 .f32) (H : Vec F S8x8x256 .f32) : Vec F S80x8x128 .f32 :=
  A.a14.view.read (Elt F) (A.a14.view.writes (Elt F) A.a14.view.junk (A.run c X T H anySteps).1)

/-- What it leaves in the buffer that carries the last three rows of the convolution's input. -/
def Args.tailV (c : Dev nD) (A : Args) (X : Blk F) (T : Vec F S3x8x256 .f32) (H : Vec F S8x8x256 .f32) : Vec F S3x8x256 .f32 :=
  A.a15.view.read (Elt F) (A.a15.view.writes (Elt F) A.a15.view.junk (A.run c X T H anySteps).2.1)

/-- What it leaves in the buffer that carries the recurrence's state. -/
def Args.stateV (c : Dev nD) (A : Args) (X : Blk F) (T : Vec F S3x8x256 .f32) (H : Vec F S8x8x256 .f32) : Vec F S8x8x256 .f32 :=
  A.a16.view.read (Elt F) (A.a16.view.writes (Elt F) A.a16.view.junk (A.run c X T H anySteps).2.2.1)

/-- One call of the body where no new sequence starts, from carried contents `T` and `H`. -/
theorem body_run (c : Dev nD) (A : Args) (X : Blk F) (T : Vec F S3x8x256 .f32) (H : Vec F S8x8x256 .f32)
    (K : PUnit → sProp 𝕄) :
    iprop(A.ins c X ∗ (∃ d, owns (c : Thread nD τ) A.a14 fullShare d) ∗ owns (c : Thread nD τ) A.a15 fullShare T ∗ owns (c : Thread nD τ) A.a16 fullShare H ∗ (∃ d, owns (c : Thread nD τ) A.a17 fullShare d) ∗ (∃ d, owns (c : Thread nD τ) A.a18 fullShare d) ∗ (∃ d, owns (c : Thread nD τ) A.a19 fullShare d) ∗ (∃ d, owns (c : Thread nD τ) A.a20 fullShare d)
        ∗ (iprop(A.ins c X ∗ owns (c : Thread nD τ) A.a14 fullShare (A.outV c X T H) ∗ owns (c : Thread nD τ) A.a15 fullShare (A.tailV c X T H) ∗ owns (c : Thread nD τ) A.a16 fullShare (A.stateV c X T H) ∗ (∃ d, owns (c : Thread nD τ) A.a17 fullShare d) ∗ (∃ d, owns (c : Thread nD τ) A.a18 fullShare d) ∗ (∃ d, owns (c : Thread nD τ) A.a19 fullShare d) ∗ (∃ d, owns (c : Thread nD τ) A.a20 fullShare d)) -∗ K ⟨⟩))
      ⊢ wp frame (wpE (defs₀ (F := F)) Variants.none c none) Set.univ (A.body i1) K := by
  iintro ⟨⟨H0, H1, H2, H3, H4, H5, H6, H7, H8, H9, H10, H11⟩, H12, HS0, HS1, HS2, HS3, HS4, ⟨%Y, HS5⟩, Hk⟩
  iapply ((A.run c X T H Y).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, ⟨%e12, H12⟩, ⟨%es0, HS0⟩, ⟨%es1, HS1⟩, HS2, HS3, HS4, HS5⟩
  iapply Hk
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]
  · unfold owns; iexists _; isplitr
    swap; · iexact H12
    ipureintro; unfold Args.outV; rw [steps_indep c A X T H anySteps Y]
    exact View.read_writes_of_cover _ _ _ _ _ (cover_out c A X T H Y)
  isplitl [HS0]
  · unfold owns; iexists _; isplitr
    swap; · iexact HS0
    ipureintro; unfold Args.tailV; rw [(carried_indep c A X T H anySteps Y).1]
    exact View.read_writes_of_cover _ _ _ _ _ (cover_tail c A X T H Y)
  isplitl [HS1]
  · unfold owns; iexists _; isplitr
    swap; · iexact HS1
    ipureintro; unfold Args.stateV; rw [(carried_indep c A X T H anySteps Y).2]
    exact View.read_writes_of_cover _ _ _ _ _ (cover_state c A X T H Y)
  isplitl [HS2]; · iexact HS2
  isplitl [HS3]; · iexact HS3
  isplitl [HS4]; · iexact HS4
  iexact HS5

/-- What the carried buffer of the convolution's input holds once a sequence's start is dealt with. -/
abbrev startT (i : grid0.Coords) (T : Vec F S3x8x256 .f32) : Vec F S3x8x256 .f32 := if cond i then k0_pay54 else T
/-- What the carried state holds once a sequence's start is dealt with. -/
abbrev startH (i : grid0.Coords) (H : Vec F S8x8x256 .f32) : Vec F S8x8x256 .f32 := if cond i then k0_pay55 else H

/-- The stores that start a sequence, before anything else: they leave zeros in both carried buffers. -/
theorem fill_run (c : Dev nD) (A : Args) (p : Prog (TpuEff nD τ sig (Elt F) Λ₀ .tc) PUnit) (K : PUnit → sProp 𝕄) :
    iprop((∃ d, owns (c : Thread nD τ) A.a15 fullShare d) ∗ (∃ d, owns (c : Thread nD τ) A.a16 fullShare d)
        ∗ (iprop(owns (c : Thread nD τ) A.a15 fullShare k0_pay54 ∗ owns (c : Thread nD τ) A.a16 fullShare k0_pay55) -∗ wp frame (wpE (defs₀ (F := F)) Variants.none c none) Set.univ p K))
      ⊢ wp frame (wpE (defs₀ (F := F)) Variants.none c none) Set.univ (A.fill >>= fun _ => p) K := by
  obtain ⟨a2, h2, a3, h3, a4, h4, a5, h5, a6, h6, a7, h7, a8, h8, a9, h9, a10, h10, a11, h11, a12, h12, a13, h13, a14, h14, a15, h15, a16, h16, a17, h17, a18, h18, a19, h19, a20, h20⟩ := A
  unfold Args.fill owns
  dsimp only
  iintro ⟨⟨%d0, %f0, -, HS0⟩, ⟨%d1, %f1, -, HS1⟩, Hk⟩
  sl_exec
  iapply Hk
  isplitl [HS0]
  · iexists _; isplitr
    swap; · iexact HS0
    ipureintro
    exact View.read_writes_full _ _ _ _ _
  · iexists _; isplitr
    swap; · iexact HS1
    ipureintro
    exact View.read_writes_full _ _ _ _ _

/-- One call of the body anywhere: where a new sequence starts the carried contents count as zero. -/
theorem body_any (c : Dev nD) (A : Args) (i : grid0.Coords) (X : Blk F) (T : Vec F S3x8x256 .f32) (H : Vec F S8x8x256 .f32)
    (K : PUnit → sProp 𝕄) :
    iprop(A.ins c X ∗ (∃ d, owns (c : Thread nD τ) A.a14 fullShare d) ∗ owns (c : Thread nD τ) A.a15 fullShare T ∗ owns (c : Thread nD τ) A.a16 fullShare H ∗ (∃ d, owns (c : Thread nD τ) A.a17 fullShare d) ∗ (∃ d, owns (c : Thread nD τ) A.a18 fullShare d) ∗ (∃ d, owns (c : Thread nD τ) A.a19 fullShare d) ∗ (∃ d, owns (c : Thread nD τ) A.a20 fullShare d)
        ∗ (iprop(A.ins c X ∗ owns (c : Thread nD τ) A.a14 fullShare (A.outV c X (startT i T) (startH i H)) ∗ owns (c : Thread nD τ) A.a15 fullShare (A.tailV c X (startT i T) (startH i H)) ∗ owns (c : Thread nD τ) A.a16 fullShare (A.stateV c X (startT i T) (startH i H)) ∗ (∃ d, owns (c : Thread nD τ) A.a17 fullShare d) ∗ (∃ d, owns (c : Thread nD τ) A.a18 fullShare d) ∗ (∃ d, owns (c : Thread nD τ) A.a19 fullShare d) ∗ (∃ d, owns (c : Thread nD τ) A.a20 fullShare d)) -∗ K ⟨⟩))
      ⊢ wp frame (wpE (defs₀ (F := F)) Variants.none c none) Set.univ (A.body i) K := by
  by_cases h : cond i
  · simp only [startT, startH, if_pos h]
    rw [body_pos A i h]
    iintro ⟨Hin, H12, HS0, HS1, HS2, HS3, HS4, HS5, Hk⟩
    iapply (fill_run c A (A.body i1) K)
    isplitl [HS0]; · iexists _; iexact HS0
    isplitl [HS1]; · iexists _; iexact HS1
    iintro ⟨HS0, HS1⟩
    iapply (body_run c A X k0_pay54 k0_pay55 K)
    isplitl [Hin]; · iexact Hin
    isplitl [H12]; · iexact H12
    isplitl [HS0]; · iexact HS0
    isplitl [HS1]; · iexact HS1
    isplitl [HS2]; · iexact HS2
    isplitl [HS3]; · iexact HS3
    isplitl [HS4]; · iexact HS4
    isplitl [HS5]; · iexact HS5
    iexact Hk
  · simp only [startT, startH, if_neg h]
    rw [body_neg A i h]
    exact body_run c A X T H K

end Cert.KernelIdeal.Run

end
-- ==== Proof.KLaunch.lean ====
module

public import proofs.«01_k».proof.Proof.KFrame
public import Idealize.ShloMosaic.Lib.Claim
public import Idealize.ShloMosaic.Lib.HeldBySlice
public import Idealize.ShloMosaic.Lib.VecWindow

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The memrefs the body gets at grid point `t`: the windows' current staging buffers and the scratch buffers. -/
def argsAt (t : Fin cfg0.N) : Args where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := win0_10.stage (cfg0.slots t 10)
  h12 := hstage0_10 ((cfg0.slots t 10).cast nbuf0_10)
  a13 := win0_11.stage (cfg0.slots t 11)
  h13 := hstage0_11 ((cfg0.slots t 11).cast nbuf0_11)
  a14 := win0_12.stage (cfg0.slots t 12)
  h14 := hstage0_12 ((cfg0.slots t 12).cast nbuf0_12)
  a15 := Memref.whole cc0_scratch0
  h15 := Memref.isWhole_whole _
  a16 := Memref.whole cc0_scratch1
  h16 := Memref.isWhole_whole _
  a17 := Memref.whole cc0_scratch2
  h17 := Memref.isWhole_whole _
  a18 := Memref.whole cc0_scratch3
  h18 := Memref.isWhole_whole _
  a19 := Memref.whole cc0_scratch4
  h19 := Memref.isWhole_whole _
  a20 := Memref.whole cc0_scratch5
  h20 := Memref.isWhole_whole _

/-- The input blocks at grid point `t`. -/
def blkAt (c : Dev nD) (t : Fin cfg0.N) : Blk F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t⟩

/-- What the two carried buffers hold before grid point `n`: what the body left at the point before. -/
def carried (c : Dev nD) : ℕ → Vec F S3x8x256 .f32 × Vec F S8x8x256 .f32
  | 0 => (k0_pay54, k0_pay55)
  | n + 1 =>
    if h : n < cfg0.N then
      ((argsAt ⟨n, h⟩).tailV c (blkAt m c ⟨n, h⟩) (startT (grid0.coords ⟨n, h⟩) (carried c n).1) (startH (grid0.coords ⟨n, h⟩) (carried c n).2),
       (argsAt ⟨n, h⟩).stateV c (blkAt m c ⟨n, h⟩) (startT (grid0.coords ⟨n, h⟩) (carried c n).1) (startH (grid0.coords ⟨n, h⟩) (carried c n).2))
    else carried c n

/-- What the body leaves in the output block at grid point `t`. -/
def outAt (c : Dev nD) (t : Fin cfg0.N) : Vec F S80x8x128 .f32 :=
  (argsAt t).outV c (blkAt m c t) (startT (grid0.coords t) (carried m c t.val).1) (startH (grid0.coords t) (carried m c t.val).2)

/-- The carried buffers after a grid point. -/
theorem carried_succ (c : Dev nD) (t : Fin cfg0.N) : carried m c (t.val + 1)
    = ((argsAt t).tailV c (blkAt m c t) (startT (grid0.coords t) (carried m c t.val).1) (startH (grid0.coords t) (carried m c t.val).2),
       (argsAt t).stateV c (blkAt m c t) (startT (grid0.coords t) (carried m c t.val).1) (startH (grid0.coords t) (carried m c t.val).2)) := by
  rw [carried, dif_pos t.isLt]

/-- A new sequence starts at the grid points divisible by 100. -/
theorem cond_iff (t : Fin grid0.N) : cond (grid0.coords t) ↔ t.val % 100 = 0 := by
  have ht : t.val < 200 := Nat.lt_of_lt_of_eq t.isLt N_0
  have e1 : (grid0.coords t 1).val = t.val / 1 % 100 := Pipeline.Grid.coords_val t 1 (by decide) rfl
  simp only [cond, e1]
  word_cmp

/-- What the launch hands the region: every scratch buffer at some contents, and the random number register. -/
theorem scratch_eq (c : Dev nD) : (Pipeline.ΦA spec0 c : sProp 𝕄)
    = iprop(iprop((∃ d, owns (c : Thread nD τ) (Memref.whole cc0_scratch0 : Memref sig .tc .vmem S3x8x256 .f32) fullShare d) ∗ (∃ d, owns (c : Thread nD τ) (Memref.whole cc0_scratch1 : Memref sig .tc .vmem S8x8x256 .f32) fullShare d) ∗ (∃ d, owns (c : Thread nD τ) (Memref.whole cc0_scratch2 : Memref sig .tc .vmem S8x80x8x256 .f32) fullShare d) ∗ (∃ d, owns (c : Thread nD τ) (Memref.whole cc0_scratch3 : Memref sig .tc .vmem S8x80x8x256 .f32) fullShare d) ∗ (∃ d, owns (c : Thread nD τ) (Memref.whole cc0_scratch4 : Memref sig .tc .vmem S8x80x8x256 .f32) fullShare d) ∗ (∃ d, owns (c : Thread nD τ) (Memref.whole cc0_scratch5 : Memref sig .tc .vmem S80x8x256 .f32) fullShare d)) ∗ (∃ r, prngReg c r)) := by
  unfold Pipeline.ΦA
  rw [scopedRest0_eq]
  simp only [owns_whole]

/-- The invariant before grid point `n`: before the first every scratch buffer holds anything, later the two carried
    buffers hold what the body left and the others anything. -/
def inv (c : Dev nD) : (n : ℕ) → n ≤ cfg0.N → sProp 𝕄
  | 0, _ => Pipeline.ΦA spec0 c
  | n + 1, _ => iprop(iprop(owns (c : Thread nD τ) (Memref.whole cc0_scratch0 : Memref sig .tc .vmem S3x8x256 .f32) fullShare (carried m c (n + 1)).1 ∗ owns (c : Thread nD τ) (Memref.whole cc0_scratch1 : Memref sig .tc .vmem S8x8x256 .f32) fullShare (carried m c (n + 1)).2 ∗ (∃ d, owns (c : Thread nD τ) (Memref.whole cc0_scratch2 : Memref sig .tc .vmem S8x80x8x256 .f32) fullShare d) ∗ (∃ d, owns (c : Thread nD τ) (Memref.whole cc0_scratch3 : Memref sig .tc .vmem S8x80x8x256 .f32) fullShare d) ∗ (∃ d, owns (c : Thread nD τ) (Memref.whole cc0_scratch4 : Memref sig .tc .vmem S8x80x8x256 .f32) fullShare d) ∗ (∃ d, owns (c : Thread nD τ) (Memref.whole cc0_scratch5 : Memref sig .tc .vmem S80x8x256 .f32) fullShare d)) ∗ (∃ r, prngReg c r))

/-- The invariant before the first grid point. -/
theorem inv_zero (c : Dev nD) (n : ℕ) (h : n ≤ cfg0.N) (hn : n = 0) : inv m c n h = Pipeline.ΦA spec0 c := by
  subst hn
  rfl

/-- The invariant after the first grid point. -/
theorem inv_pos (c : Dev nD) (n : ℕ) (h : n ≤ cfg0.N) (hn : n ≠ 0) : inv m c n h
    = iprop(iprop(owns (c : Thread nD τ) (Memref.whole cc0_scratch0 : Memref sig .tc .vmem S3x8x256 .f32) fullShare (carried m c n).1 ∗ owns (c : Thread nD τ) (Memref.whole cc0_scratch1 : Memref sig .tc .vmem S8x8x256 .f32) fullShare (carried m c n).2 ∗ (∃ d, owns (c : Thread nD τ) (Memref.whole cc0_scratch2 : Memref sig .tc .vmem S8x80x8x256 .f32) fullShare d) ∗ (∃ d, owns (c : Thread nD τ) (Memref.whole cc0_scratch3 : Memref sig .tc .vmem S8x80x8x256 .f32) fullShare d) ∗ (∃ d, owns (c : Thread nD τ) (Memref.whole cc0_scratch4 : Memref sig .tc .vmem S8x80x8x256 .f32) fullShare d) ∗ (∃ d, owns (c : Thread nD τ) (Memref.whole cc0_scratch5 : Memref sig .tc .vmem S80x8x256 .f32) fullShare d)) ∗ (∃ r, prngReg c r)) := by
  cases n with
  | zero => exact absurd rfl hn
  | succ n => rfl

/-- At any grid point the carried buffers hold contents that, once a sequence's start is dealt with, are the named ones. -/
theorem inv_open (c : Dev nD) (t : Fin cfg0.N) : inv m c t.val (Nat.le_of_lt t.isLt)
    ⊢ iprop(iprop((∃ d, ⌜startT (grid0.coords t) d = startT (grid0.coords t) (carried m c t.val).1⌝ ∗ owns (c : Thread nD τ) (Memref.whole cc0_scratch0 : Memref sig .tc .vmem S3x8x256 .f32) fullShare d)
        ∗ (∃ d, ⌜startH (grid0.coords t) d = startH (grid0.coords t) (carried m c t.val).2⌝ ∗ owns (c : Thread nD τ) (Memref.whole cc0_scratch1 : Memref sig .tc .vmem S8x8x256 .f32) fullShare d)
        ∗ (∃ d, owns (c : Thread nD τ) (Memref.whole cc0_scratch2 : Memref sig .tc .vmem S8x80x8x256 .f32) fullShare d) ∗ (∃ d, owns (c : Thread nD τ) (Memref.whole cc0_scratch3 : Memref sig .tc .vmem S8x80x8x256 .f32) fullShare d) ∗ (∃ d, owns (c : Thread nD τ) (Memref.whole cc0_scratch4 : Memref sig .tc .vmem S8x80x8x256 .f32) fullShare d) ∗ (∃ d, owns (c : Thread nD τ) (Memref.whole cc0_scratch5 : Memref sig .tc .vmem S80x8x256 .f32) fullShare d)) ∗ (∃ r, prngReg c r)) := by
  by_cases hz : t.val = 0
  · have hc : cond (grid0.coords t) := (cond_iff t).mpr (by rw [hz])
    rw [inv_zero m c _ _ hz, scratch_eq]
    iintro ⟨⟨⟨%d0, HS0⟩, ⟨%d1, HS1⟩, HS2, HS3, HS4, HS5⟩, Hg⟩
    isplitr [Hg]
    · isplitl [HS0]
      · iexists d0; isplitr; · ipureintro; simp only [startT, if_pos hc]
        iexact HS0
      isplitl [HS1]
      · iexists d1; isplitr; · ipureintro; simp only [startH, if_pos hc]
        iexact HS1
      isplitl [HS2]; · iexact HS2
      isplitl [HS3]; · iexact HS3
      isplitl [HS4]; · iexact HS4
      iexact HS5
    · iexact Hg
  · rw [inv_pos m c _ _ hz]
    iintro ⟨⟨HS0, HS1, HS2, HS3, HS4, HS5⟩, Hg⟩
    isplitr [Hg]
    · isplitl [HS0]
      · iexists _; isplitr; · ipureintro; rfl
        iexact HS0
      isplitl [HS1]
      · iexists _; isplitr; · ipureintro; rfl
        iexact HS1
      isplitl [HS2]; · iexact HS2
      isplitl [HS3]; · iexact HS3
      isplitl [HS4]; · iexact HS4
      iexact HS5
    · iexact Hg

/-- The pipeline's proof data: the arrays as the region finds them, each input's buffer at its block after the body, the
    output's at `outAt`, the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => outAt m c t
    | ⟨_ + 13, h⟩ => absurd h (Nat.not_lt.2 (Nat.le_add_left _ _))
  Φ t := inv m c t.val (Nat.le_of_lt_succ t.isLt)
  q _ := fullShare
  owed _ := 0

/-- A window's array starts as its buffer is at the launch. -/
theorem A_eq (c : Dev nD) (w : Fin cfg0.W) : (dats m 0 c).A w = V m c (Pipeline.arrRef spec0 w) := by dsimp only [dats]

/-- Window 0 ends a grid point with the block it read. -/
theorem after_0 (c : Dev nD) (t : Fin cfg0.N) : (dats m 0 c).after 0 t = iblk m c 0 t := by dsimp only [dats]
/-- Window 1 ends a grid point with the block it read. -/
theorem after_1 (c : Dev nD) (t : Fin cfg0.N) : (dats m 0 c).after 1 t = iblk m c 1 t := by dsimp only [dats]
/-- Window 2 ends a grid point with the block it read. -/
theorem after_2 (c : Dev nD) (t : Fin cfg0.N) : (dats m 0 c).after 2 t = iblk m c 2 t := by dsimp only [dats]
/-- Window 3 ends a grid point with the block it read. -/
theorem after_3 (c : Dev nD) (t : Fin cfg0.N) : (dats m 0 c).after 3 t = iblk m c 3 t := by dsimp only [dats]
/-- Window 4 ends a grid point with the block it read. -/
theorem after_4 (c : Dev nD) (t : Fin cfg0.N) : (dats m 0 c).after 4 t = iblk m c 4 t := by dsimp only [dats]
/-- Window 5 ends a grid point with the block it read. -/
theorem after_5 (c : Dev nD) (t : Fin cfg0.N) : (dats m 0 c).after 5 t = iblk m c 5 t := by dsimp only [dats]
/-- Window 6 ends a grid point with the block it read. -/
theorem after_6 (c : Dev nD) (t : Fin cfg0.N) : (dats m 0 c).after 6 t = iblk m c 6 t := by dsimp only [dats]
/-- Window 7 ends a grid point with the block it read. -/
theorem after_7 (c : Dev nD) (t : Fin cfg0.N) : (dats m 0 c).after 7 t = iblk m c 7 t := by dsimp only [dats]
/-- Window 8 ends a grid point with the block it read. -/
theorem after_8 (c : Dev nD) (t : Fin cfg0.N) : (dats m 0 c).after 8 t = iblk m c 8 t := by dsimp only [dats]
/-- Window 9 ends a grid point with the block it read. -/
theorem after_9 (c : Dev nD) (t : Fin cfg0.N) : (dats m 0 c).after 9 t = iblk m c 9 t := by dsimp only [dats]
/-- Window 10 ends a grid point with the block it read. -/
theorem after_10 (c : Dev nD) (t : Fin cfg0.N) : (dats m 0 c).after 10 t = iblk m c 10 t := by dsimp only [dats]
/-- Window 11 ends a grid point with the block it read. -/
theorem after_11 (c : Dev nD) (t : Fin cfg0.N) : (dats m 0 c).after 11 t = iblk m c 11 t := by dsimp only [dats]
/-- The output window ends a grid point with the point's output. -/
theorem after_12 (c : Dev nD) (t : Fin cfg0.N) : (dats m 0 c).after 12 t = outAt m c t := by dsimp only [dats]

/-- Window 0 starts a grid point with its block. -/
theorem before_0 (c : Dev nD) (t : Fin cfg0.N) (d) : (dats m 0 c).before 0 t d = iblk m c 0 t :=
  before0_0_of m (dats m 0 c) (A_eq m c 0) (after_0 m c) t d
/-- Window 1 starts a grid point with its block. -/
theorem before_1 (c : Dev nD) (t : Fin cfg0.N) (d) : (dats m 0 c).before 1 t d = iblk m c 1 t :=
  before0_1_of m (dats m 0 c) (A_eq m c 1) (after_1 m c) t d
/-- Window 2 starts a grid point with its block. -/
theorem before_2 (c : Dev nD) (t : Fin cfg0.N) (d) : (dats m 0 c).before 2 t d = iblk m c 2 t :=
  before0_2_of m (dats m 0 c) (A_eq m c 2) (after_2 m c) t d
/-- Window 3 starts a grid point with its block. -/
theorem before_3 (c : Dev nD) (t : Fin cfg0.N) (d) : (dats m 0 c).before 3 t d = iblk m c 3 t :=
  before0_3_of m (dats m 0 c) (A_eq m c 3) (after_3 m c) t d
/-- Window 4 starts a grid point with its block. -/
theorem before_4 (c : Dev nD) (t : Fin cfg0.N) (d) : (dats m 0 c).before 4 t d = iblk m c 4 t :=
  before0_4_of m (dats m 0 c) (A_eq m c 4) (after_4 m c) t d
/-- Window 5 starts a grid point with its block. -/
theorem before_5 (c : Dev nD) (t : Fin cfg0.N) (d) : (dats m 0 c).before 5 t d = iblk m c 5 t :=
  before0_5_of m (dats m 0 c) (A_eq m c 5) (after_5 m c) t d
/-- Window 6 starts a grid point with its block. -/
theorem before_6 (c : Dev nD) (t : Fin cfg0.N) (d) : (dats m 0 c).before 6 t d = iblk m c 6 t :=
  before0_6_of m (dats m 0 c) (A_eq m c 6) (after_6 m c) t d
/-- Window 7 starts a grid point with its block. -/
theorem before_7 (c : Dev nD) (t : Fin cfg0.N) (d) : (dats m 0 c).before 7 t d = iblk m c 7 t :=
  before0_7_of m (dats m 0 c) (A_eq m c 7) (after_7 m c) t d
/-- Window 8 starts a grid point with its block. -/
theorem before_8 (c : Dev nD) (t : Fin cfg0.N) (d) : (dats m 0 c).before 8 t d = iblk m c 8 t :=
  before0_8_of m (dats m 0 c) (A_eq m c 8) (after_8 m c) t d
/-- Window 9 starts a grid point with its block. -/
theorem before_9 (c : Dev nD) (t : Fin cfg0.N) (d) : (dats m 0 c).before 9 t d = iblk m c 9 t :=
  before0_9_of m (dats m 0 c) (A_eq m c 9) (after_9 m c) t d
/-- Window 10 starts a grid point with its block. -/
theorem before_10 (c : Dev nD) (t : Fin cfg0.N) (d) : (dats m 0 c).before 10 t d = iblk m c 10 t :=
  before0_10_of m (dats m 0 c) (A_eq m c 10) (after_10 m c) t d
/-- Window 11 starts a grid point with its block. -/
theorem before_11 (c : Dev nD) (t : Fin cfg0.N) (d) : (dats m 0 c).before 11 t d = iblk m c 11 t :=
  before0_11_of m (dats m 0 c) (A_eq m c 11) (after_11 m c) t d

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) ((argsAt t).a2) fullShare ((dats m 0 c).before 0 t d)) ∗ (∃ d, owns (c : Thread nD τ) ((argsAt t).a3) fullShare ((dats m 0 c).before 1 t d)) ∗ (∃ d, owns (c : Thread nD τ) ((argsAt t).a4) fullShare ((dats m 0 c).before 2 t d)) ∗ (∃ d, owns (c : Thread nD τ) ((argsAt t).a5) fullShare ((dats m 0 c).before 3 t d)) ∗ (∃ d, owns (c : Thread nD τ) ((argsAt t).a6) fullShare ((dats m 0 c).before 4 t d)) ∗ (∃ d, owns (c : Thread nD τ) ((argsAt t).a7) fullShare ((dats m 0 c).before 5 t d)) ∗ (∃ d, owns (c : Thread nD τ) ((argsAt t).a8) fullShare ((dats m 0 c).before 6 t d)) ∗ (∃ d, owns (c : Thread nD τ) ((argsAt t).a9) fullShare ((dats m 0 c).before 7 t d)) ∗ (∃ d, owns (c : Thread nD τ) ((argsAt t).a10) fullShare ((dats m 0 c).before 8 t d)) ∗ (∃ d, owns (c : Thread nD τ) ((argsAt t).a11) fullShare ((dats m 0 c).before 9 t d)) ∗ (∃ d, owns (c : Thread nD τ) ((argsAt t).a12) fullShare ((dats m 0 c).before 10 t d)) ∗ (∃ d, owns (c : Thread nD τ) ((argsAt t).a13) fullShare ((dats m 0 c).before 11 t d)) ∗ (∃ d, owns (c : Thread nD τ) ((argsAt t).a14) fullShare ((dats m 0 c).before 12 t d)))

/-- And what it returns. -/
def bodyPost (c : Dev nD) (t : Fin cfg0.N) : sProp 𝕄 :=
  iprop((dats m 0 c).Φ t.succ ∗ (dats m 0 c).owesAt () t.succ
    ∗ owns (c : Thread nD τ) ((argsAt t).a2) fullShare ((dats m 0 c).after 0 t) ∗ owns (c : Thread nD τ) ((argsAt t).a3) fullShare ((dats m 0 c).after 1 t) ∗ owns (c : Thread nD τ) ((argsAt t).a4) fullShare ((dats m 0 c).after 2 t) ∗ owns (c : Thread nD τ) ((argsAt t).a5) fullShare ((dats m 0 c).after 3 t) ∗ owns (c : Thread nD τ) ((argsAt t).a6) fullShare ((dats m 0 c).after 4 t) ∗ owns (c : Thread nD τ) ((argsAt t).a7) fullShare ((dats m 0 c).after 5 t) ∗ owns (c : Thread nD τ) ((argsAt t).a8) fullShare ((dats m 0 c).after 6 t) ∗ owns (c : Thread nD τ) ((argsAt t).a9) fullShare ((dats m 0 c).after 7 t) ∗ owns (c : Thread nD τ) ((argsAt t).a10) fullShare ((dats m 0 c).after 8 t) ∗ owns (c : Thread nD τ) ((argsAt t).a11) fullShare ((dats m 0 c).after 9 t) ∗ owns (c : Thread nD τ) ((argsAt t).a12) fullShare ((dats m 0 c).after 10 t) ∗ owns (c : Thread nD τ) ((argsAt t).a13) fullShare ((dats m 0 c).after 11 t) ∗ owns (c : Thread nD τ) ((argsAt t).a14) fullShare ((dats m 0 c).after 12 t))

set_option maxHeartbeats 6400000 in
/-- The body at any grid point. -/
theorem sound_body (c : Dev nD) (t : Fin cfg0.N) :
    bodyPre m c t ⊢ wp frame (wpE (defs₀ (F := F)) Variants.none c none) Set.univ ((argsAt t).body (grid0.coords t)) (fun _ => bodyPost m c t) := by
  unfold bodyPre bodyPost
  simp only [before_0, before_1, before_2, before_3, before_4, before_5, before_6, before_7, before_8, before_9, before_10, before_11]
  rw [show (dats m 0 c).owesAt () t.succ = (dats m 0 c).owesAt () t.castSucc from rfl,
    after_0, after_1, after_2, after_3, after_4, after_5, after_6, after_7, after_8, after_9, after_10, after_11, after_12]
  rw [show (dats m 0 c).Φ t.succ = inv m c (t.val + 1) t.isLt from rfl, inv_pos m c _ _ (Nat.succ_ne_zero _),
    show (dats m 0 c).Φ t.castSucc = inv m c t.val (Nat.le_of_lt t.isLt) from rfl]
  rw [carried_succ]
  unfold outAt
  iintro ⟨Hinv, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave Hinv := (inv_open m c t) $$ Hinv
  icases Hinv with ⟨⟨⟨%T, %hT, HS0⟩, ⟨%S, %hS, HS1⟩, HS2, HS3, HS4, HS5⟩, Hg⟩
  rw [← hT, ← hS]
  iapply (body_any c (argsAt t) (grid0.coords t) (blkAt m c t) T S _)
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  iintro ⟨⟨H0, H1, H2, H3, H4, H5, H6, H7, H8, H9, H10, H11⟩, H12, HS0, HS1, HS2, HS3, HS4, HS5⟩
  isplitl [HS0 HS1 HS2 HS3 HS4 HS5 Hg]
  · isplitr [Hg]
    · isplitl [HS0]; · iexact HS0
      isplitl [HS1]; · iexact HS1
      isplitl [HS2]; · iexact HS2
      isplitl [HS3]; · iexact HS3
      isplitl [HS4]; · iexact HS4
      iexact HS5
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body the region runs at point `t` is the kernel's on that point's memrefs. -/
theorem defs₀_row (t : Fin cfg0.N) :
    defs₀ (F := F) .tc cfg0.body (cfg0.bodyArgs t (cfg0.slots t)) = (argsAt t).body (grid0.coords t) := by
  unfold defs₀
  rw [Defs.onTc_tc]
  rfl

/-- The launch's obligation on the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]

/-- The invariant after the last point gives it back. -/
theorem hout (c : Dev nD) : (dats m 0 c).Φ (Fin.last cfg0.N) ⊢ Pipeline.ΦA spec0 c := by
  have h : cfg0.N = 200 := N_0
  rw [show (dats m 0 c).Φ (Fin.last cfg0.N) = inv m c cfg0.N le_rfl from rfl, inv_pos m c _ _ (by omega), scratch_eq]
  iintro ⟨⟨HS0, HS1, HS2, HS3, HS4, HS5⟩, Hg⟩
  isplitr [Hg]
  · isplitl [HS0]; · iexists _; iexact HS0
    isplitl [HS1]; · iexists _; iexact HS1
    isplitl [HS2]; · iexact HS2
    isplitl [HS3]; · iexact HS3
    isplitl [HS4]; · iexact HS4
    iexact HS5
  · iexact Hg

set_option backward.isDefEq.respectTransparency.types false in
set_option maxHeartbeats 800000 in
/-- The launch: every execution ends with the arrays at what the proof data say and every counter at zero. -/
theorem run_main : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Run

end
-- ==== Proof.RFrame.lean ====
module

public import proofs.«01_k».proof.Proof.Gen.ReferenceIdeal.Run
public import Idealize.ShloMosaic.Lib.Quiescent
public import Idealize.ShloMosaic.Lib.Claim

@[expose] public section

set_option maxRecDepth 16384

noncomputable section

namespace Cert.ReferenceIdeal.Run

open Cert.ReferenceIdeal Cert.ReferenceIdeal.Gen Cert.ReferenceIdeal.Value
open Idealize.ShloMosaic Idealize.ShloMosaic.TcCoe Idealize.ShloMosaic.StableHlo
open Idealize.SL Idealize.SL.Sem

variable {F : FTy → Type} [FloatOps F]

/-- Everything the loop writes: its condition and the stretches of its body. -/
abbrev loopW : List (Ref sig .tc) :=
  condOps_W ++ while0Ops0_W ++ while0Ops0_1_W ++ while0Ops0_2_W ++ while0Ops0_3_W ++ while0Ops0_4_W ++ while0Ops0_5_W ++ while0Ops0_6_W

/-- A buffer the loop does not write holds after a trip what it held before. -/
theorem trip_keeps (V : Valuation τ sig (Elt F)) (r : Ref sig .tc) (h : r ∉ loopW) :
    afterL bodyI (after condOps V) (Proc.devRef .tc r) = V (Proc.devRef .tc r) := by
  simp only [loopW, List.mem_append, not_or] at h
  obtain ⟨⟨⟨⟨⟨⟨⟨hc, h0⟩, h1⟩, h2⟩, h3⟩, h4⟩, h5⟩, h6⟩ := h
  simp only [bodyI, afterL_cons, afterL_nil]
  rw [after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0, after_of_writes_sub _ _ condOps_writes hc]

variable (m : (ℓ : Loc nD τ sig) → Buf (Elt F) ℓ) (ρ : Dev nD → PrngReg)

/-- It holds before any trip what it held at the loop's entry. -/
theorem loop_keeps (c : Dev nD) (r : Ref sig .tc) (h : r ∉ loopW) : ∀ k, atK m k c (Proc.devRef .tc r) = entryContents preI m c (Proc.devRef .tc r)
  | 0 => rfl
  | k + 1 => (trip_keeps (atK m k c) r h).trans (loop_keeps c r h k)

/-- The buffers at the loop's end, the failing condition's operations done. -/
abbrev atEnd (c : Dev nD) : Valuation τ sig (Elt F) := after condOps (atK m 8000 c)

/-- What the stretches before the loop write. -/
abbrev preW : List (Ref sig .tc) :=
  hostOps0_W ++ hostOps0_1_W ++ hostOps0_2_W ++ hostOps0_3_W ++ hostOps0_4_W ++ hostOps0_5_W ++ hostOps0_6_W ++ hostOps0_7_W ++ hostOps0_8_W

/-- A buffer that no stretch before the loop writes is at the loop's entry as at the launch. -/
theorem entry_keeps (c : Dev nD) (r : Ref sig .tc) (h : r ∉ preW) :
    entryContents preI m c (Proc.devRef .tc r) = m ((c.tc : Thread nD τ).loc r) := by
  simp only [preW, List.mem_append, not_or] at h
  obtain ⟨⟨⟨⟨⟨⟨⟨⟨h0, h1⟩, h2⟩, h3⟩, h4⟩, h5⟩, h6⟩, h7⟩, h8⟩ := h
  simp only [entryContents, preI, afterL_cons, afterL_nil]
  rw [after_of_writes_sub _ _ hostOps0_8_writes h8, after_of_writes_sub _ _ hostOps0_7_writes h7,
    after_of_writes_sub _ _ hostOps0_6_writes h6, after_of_writes_sub _ _ hostOps0_5_writes h5,
    after_of_writes_sub _ _ hostOps0_4_writes h4, after_of_writes_sub _ _ hostOps0_3_writes h3,
    after_of_writes_sub _ _ hostOps0_2_writes h2, after_of_writes_sub _ _ hostOps0_1_writes h1,
    after_of_writes_sub _ _ hostOps0_writes h0]

/-- A buffer that neither the loop nor what precedes it writes is at the loop's end as at the launch. -/
theorem end_keeps (c : Dev nD) (r : Ref sig .tc) (hl : r ∉ loopW) (h : r ∉ preW) :
    atEnd m c (Proc.devRef .tc r) = m ((c.tc : Thread nD τ).loc r) := by
  have hc : r ∉ condOps_W := fun hr => hl (by simp only [loopW, List.mem_append]; tauto)
  rw [atEnd, after_of_writes_sub _ _ condOps_writes hc, loop_keeps m c r hl, entry_keeps m c r h]

/-- What stretch 1 after the loop writes. -/
abbrev post9W : List (Ref sig .tc) := [main_v75, main_v76, main_v77, main_v78, main_v79]
/-- That is all it writes. -/
theorem post9_writes : (hostOps0_9 : List (HloOp τ sig (Elt F))).Forall fun op => op.writes ⊆ (post9W.map (Proc.devRef (τ := τ) .tc)).toFinset :=
  StableHlo.forall_writes_sub_of_map rfl

/-- What stretch 2 after the loop writes. -/
abbrev post10W : List (Ref sig .tc) := [main_call9_v0, main_call9_v1, main_call9_cst, main_call9_v2, main_call9_v3, main_call9_cst_0, main_call9_v4, main_call9_v5, main_v80]
/-- That is all it writes. -/
theorem post10_writes : (hostOps0_10 : List (HloOp τ sig (Elt F))).Forall fun op => op.writes ⊆ (post10W.map (Proc.devRef (τ := τ) .tc)).toFinset :=
  StableHlo.forall_writes_sub_of_map rfl

/-- What stretch 3 after the loop writes. -/
abbrev post11W : List (Ref sig .tc) := [main_v81, main_v82, main_v83, main_v84, main_v85, main_v86, main_v87]
/-- That is all it writes. -/
theorem post11_writes : (hostOps0_11 : List (HloOp τ sig (Elt F))).Forall fun op => op.writes ⊆ (post11W.map (Proc.devRef (τ := τ) .tc)).toFinset :=
  StableHlo.forall_writes_sub_of_map rfl

/-- A buffer that nothing in the program writes ends as it was at the launch. -/
theorem final_keeps (c : Dev nD) (r : Ref sig .tc) (hl : r ∉ loopW) (h : r ∉ preW) (h9 : r ∉ post9W) (h10 : r ∉ post10W)
    (h11 : r ∉ post11W) : finalContents condOps preI bodyI postI 8000 m c (Proc.devRef .tc r) = m ((c.tc : Thread nD τ).loc r) := by
  simp only [finalContents, postI, afterL_cons, afterL_nil]
  rw [after_of_writes_sub _ _ post11_writes h11, after_of_writes_sub _ _ post10_writes h10, after_of_writes_sub _ _ post9_writes h9]
  exact end_keeps m c r hl h

/-- The frame: the arguments end unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h =>
    have k (c : Dev nD) (b : Ref sig .tc) (hb : (Proc.devRef .tc b : DevRef τ sig).isScoped = false) (hl : b ∉ loopW) (hp : b ∉ preW)
        (h9 : b ∉ post9W) (h10 : b ∉ post10W) (h11 : b ∉ post11W) : r.2.mem ((c.tc : Thread nD τ).loc b) = m ((c.tc : Thread nD τ).loc b) :=
      (h c b hb).trans (final_keeps m c b hl hp h9 h10 h11)
    ⟨fun c => ⟨k c main_arg0 rfl (by decide +kernel) (by decide +kernel) (by decide +kernel) (by decide +kernel) (by decide +kernel), k c main_arg1 rfl (by decide +kernel) (by decide +kernel) (by decide +kernel) (by decide +kernel) (by decide +kernel), k c main_arg2 rfl (by decide +kernel) (by decide +kernel) (by decide +kernel) (by decide +kernel) (by decide +kernel), k c main_arg3 rfl (by decide +kernel) (by decide +kernel) (by decide +kernel) (by decide +kernel) (by decide +kernel), k c main_arg4 rfl (by decide +kernel) (by decide +kernel) (by decide +kernel) (by decide +kernel) (by decide +kernel), k c main_arg5 rfl (by decide +kernel) (by decide +kernel) (by decide +kernel) (by decide +kernel) (by decide +kernel), k c main_arg6 rfl (by decide +kernel) (by decide +kernel) (by decide +kernel) (by decide +kernel) (by decide +kernel), k c main_arg7 rfl (by decide +kernel) (by decide +kernel) (by decide +kernel) (by decide +kernel) (by decide +kernel), k c main_arg8 rfl (by decide +kernel) (by decide +kernel) (by decide +kernel) (by decide +kernel) (by decide +kernel), k c main_arg9 rfl (by decide +kernel) (by decide +kernel) (by decide +kernel) (by decide +kernel) (by decide +kernel), k c main_arg10 rfl (by decide +kernel) (by decide +kernel) (by decide +kernel) (by decide +kernel) (by decide +kernel), k c main_arg11 rfl (by decide +kernel) (by decide +kernel) (by decide +kernel) (by decide +kernel) (by decide +kernel)⟩,
      sem_eq_zero_of_no_sems rfl r.2⟩) (run_fold m ρ)

end Cert.ReferenceIdeal.Run

end
-- ==== Proof.KTrip.lean ====
module

public import proofs.«01_k».proof.Proof.KFrame
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe

/-- The eight vectors that the recurrence's loop carries, one per component of the state. -/
abbrev Carry := FVec Ideal S8x256 .f32 × FVec Ideal S8x256 .f32 × FVec Ideal S8x256 .f32 × FVec Ideal S8x256 .f32 × FVec Ideal S8x256 .f32 × FVec Ideal S8x256 .f32 × FVec Ideal S8x256 .f32 × FVec Ideal S8x256 .f32

/-- Component `s` of the carried vectors. -/
def comp (a : Carry) (s : Fin 8) : FVec Ideal S8x256 .f32 :=
  match s with
  | 0 => a.1 | 1 => a.2.1 | 2 => a.2.2.1 | 3 => a.2.2.2.1 | 4 => a.2.2.2.2.1 | 5 => a.2.2.2.2.2.1 | 6 => a.2.2.2.2.2.2.1
  | 7 => a.2.2.2.2.2.2.2

/-- The entry of a buffer over components, time steps, rows and lanes; zero outside its extents. -/
def at4 (X : S8x80x8x256.Idx → EReal) (s t : ℕ) (r : Fin 8) (d : Fin 256) : EReal :=
  if h : s < 8 ∧ t < 80 then X (ix4 ⟨s, h.1⟩ ⟨t, h.2⟩ r d) else 0

/-- The recurrence over the steps of one block: the state before step `n`, from the state `h0` before the first. -/
def scan (E D : S8x80x8x256.Idx → EReal) (h0 : ℕ → Fin 8 → Fin 256 → EReal) : ℕ → ℕ → Fin 8 → Fin 256 → EReal
  | 0 => h0
  | n + 1 => fun s r d => at4 E s n r d * scan E D h0 n s r d + at4 D s n r d

/-- One step of the recurrence. -/
theorem scan_succ (E D : S8x80x8x256.Idx → EReal) (h0 : ℕ → Fin 8 → Fin 256 → EReal) (n s : ℕ) (r : Fin 8) (d : Fin 256) :
    scan E D h0 (n + 1) s r d = at4 E s n r d * scan E D h0 n s r d + at4 D s n r d := rfl

/-- What one step puts out: the sum over the components of the state after the step, each times its coefficient. -/
def mixed (E D C : S8x80x8x256.Idx → EReal) (h0 : ℕ → Fin 8 → Fin 256 → EReal) (n : ℕ) (r : Fin 8) (d : Fin 256) : EReal :=
  ∑ s : Fin 8, scan E D h0 (n + 1) s.val r d * at4 C s.val n r d

/-- A block of one component and one time step as a matrix of rows and lanes. -/
theorem cast_block (w : FVec Ideal S1x1x8x256 .f32) (h : S1x1x8x256.ShapeCasts S8x256) (r : Fin 8) (d : Fin 256) :
    shapeCast S8x256 w h (ix2 r d) = w (ix4 (n0 := 1) (n1 := 1) 0 0 r d) := by
  pointwise

/-- One row of a buffer over components, time steps, rows and lanes, loaded at any offset. -/
theorem load_row (v : View sig .tc .vmem S8x80x8x256 .f32) (X : BufTy.Contents (Elt Ideal) v.ty) (off : Fin 4 → ℕ)
    (inb : ∀ a, off a + (![1, 1, 8, 256] : Fin 4 → ℕ) a ≤ S8x80x8x256.size a) (h : S1x1x8x256.ShapeCasts S8x256) (r : Fin 8) (d : Fin 256) :
    shapeCast (s := S1x1x8x256) (α := Ideal FTy.f32) S8x256 (View.readAt (Elt Ideal) v (Rect.unit (s := S8x80x8x256) off ![1, 1, 8, 256] inb).toLoadRect X) h (ix2 r d)
      = at4 (v.read (Elt Ideal) X) (off 0) (off 1) r d := by
  have h0 : off 0 + 1 ≤ 8 := inb 0
  have h1 : off 1 + 1 ≤ 80 := inb 1
  have h2 : off 2 + 8 ≤ 8 := inb 2
  have h3 : off 3 + 256 ≤ 256 := inb 3
  rw [cast_block, View.readAt_apply, at4, dif_pos ⟨by omega, by omega⟩]
  refine congrArg _ (funext fun a => Fin.ext ?_)
  match a with
  | ⟨0, _⟩ => show off 0 + 1 * 0 = off 0; omega
  | ⟨1, _⟩ => show off 1 + 1 * 0 = off 1; omega
  | ⟨2, _⟩ => show off 2 + 1 * r.val = r.val; omega
  | ⟨3, _⟩ => show off 3 + 1 * d.val = d.val; omega

/-- Where trip `k` of the loop loads its rows: component by component, at the four steps of the trip. -/
theorem offs (k : Fin k0_t1_loop.trips) : k0_off1 k 0#32 = ![0, 4 * k.val + 0, 0, 0] ∧ k0_off1 k 1#32 = ![0, 4 * k.val + 1, 0, 0] ∧ k0_off1 k 2#32 = ![0, 4 * k.val + 2, 0, 0] ∧ k0_off1 k 3#32 = ![0, 4 * k.val + 3, 0, 0] ∧ k0_off2 k 0#32 = ![1, 4 * k.val + 0, 0, 0] ∧ k0_off2 k 1#32 = ![1, 4 * k.val + 1, 0, 0] ∧ k0_off2 k 2#32 = ![1, 4 * k.val + 2, 0, 0] ∧ k0_off2 k 3#32 = ![1, 4 * k.val + 3, 0, 0] ∧ k0_off3 k 0#32 = ![2, 4 * k.val + 0, 0, 0] ∧ k0_off3 k 1#32 = ![2, 4 * k.val + 1, 0, 0] ∧ k0_off3 k 2#32 = ![2, 4 * k.val + 2, 0, 0] ∧ k0_off3 k 3#32 = ![2, 4 * k.val + 3, 0, 0] ∧ k0_off4 k 0#32 = ![3, 4 * k.val + 0, 0, 0] ∧ k0_off4 k 1#32 = ![3, 4 * k.val + 1, 0, 0] ∧ k0_off4 k 2#32 = ![3, 4 * k.val + 2, 0, 0] ∧ k0_off4 k 3#32 = ![3, 4 * k.val + 3, 0, 0] ∧ k0_off5 k 0#32 = ![4, 4 * k.val + 0, 0, 0] ∧ k0_off5 k 1#32 = ![4, 4 * k.val + 1, 0, 0] ∧ k0_off5 k 2#32 = ![4, 4 * k.val + 2, 0, 0] ∧ k0_off5 k 3#32 = ![4, 4 * k.val + 3, 0, 0] ∧ k0_off6 k 0#32 = ![5, 4 * k.val + 0, 0, 0] ∧ k0_off6 k 1#32 = ![5, 4 * k.val + 1, 0, 0] ∧ k0_off6 k 2#32 = ![5, 4 * k.val + 2, 0, 0] ∧ k0_off6 k 3#32 = ![5, 4 * k.val + 3, 0, 0] ∧ k0_off7 k 0#32 = ![6, 4 * k.val + 0, 0, 0] ∧ k0_off7 k 1#32 = ![6, 4 * k.val + 1, 0, 0] ∧ k0_off7 k 2#32 = ![6, 4 * k.val + 2, 0, 0] ∧ k0_off7 k 3#32 = ![6, 4 * k.val + 3, 0, 0] ∧ k0_off8 k 0#32 = ![7, 4 * k.val + 0, 0, 0] ∧ k0_off8 k 1#32 = ![7, 4 * k.val + 1, 0, 0] ∧ k0_off8 k 2#32 = ![7, 4 * k.val + 2, 0, 0] ∧ k0_off8 k 3#32 = ![7, 4 * k.val + 3, 0, 0] :=
  ⟨k0_off1_eq k 0, k0_off1_eq k 1, k0_off1_eq k 2, k0_off1_eq k 3, k0_off2_eq k 0, k0_off2_eq k 1, k0_off2_eq k 2, k0_off2_eq k 3, k0_off3_eq k 0, k0_off3_eq k 1, k0_off3_eq k 2, k0_off3_eq k 3, k0_off4_eq k 0, k0_off4_eq k 1, k0_off4_eq k 2, k0_off4_eq k 3, k0_off5_eq k 0, k0_off5_eq k 1, k0_off5_eq k 2, k0_off5_eq k 3, k0_off6_eq k 0, k0_off6_eq k 1, k0_off6_eq k 2, k0_off6_eq k 3, k0_off7_eq k 0, k0_off7_eq k 1, k0_off7_eq k 2, k0_off7_eq k 3, k0_off8_eq k 0, k0_off8_eq k 1, k0_off8_eq k 2, k0_off8_eq k 3⟩

/-- Where it stores what the four steps put out. -/
theorem offs_out (k : Fin k0_t1_loop.trips) : k0_off9 k 0#32 = ![4 * k.val + 0, 0, 0] ∧ k0_off9 k 1#32 = ![4 * k.val + 1, 0, 0]
    ∧ k0_off9 k 2#32 = ![4 * k.val + 2, 0, 0] ∧ k0_off9 k 3#32 = ![4 * k.val + 3, 0, 0] :=
  ⟨k0_off9_eq k 0, k0_off9_eq k 1, k0_off9_eq k 2, k0_off9_eq k 3⟩

/-- A matrix of rows and lanes as a block of one time step. -/
theorem cast_row (v : FVec Ideal S8x256 .f32) (h : S8x256.ShapeCasts S1x8x256) (j : S1x8x256.Idx) (r : Fin 8) (d : Fin 256)
    (hr : r = j 1) (hd : d = j 2) : shapeCast S1x8x256 v h j = v (ix2 r d) := by
  subst hr hd
  idx_vars j
  pointwise

/-- Where an element of a block of one time step lies in the whole: its time step, -/
theorem emb_time (off : Fin 3 → ℕ) (inb : ∀ a, off a + (![1, 8, 256] : Fin 3 → ℕ) a ≤ S80x8x256.size a) (x) (h1 : off 1 = 0) (h2 : off 2 = 0) :
    ((Rect.unit (s := S80x8x256) off ![1, 8, 256] inb).emb x 0).val = off 0 := by
  have h : (x 0).val < 1 := (x 0).isLt
  show off 0 + 1 * (x 0).val = off 0
  omega

/-- its row, -/
theorem emb_row (off : Fin 3 → ℕ) (inb : ∀ a, off a + (![1, 8, 256] : Fin 3 → ℕ) a ≤ S80x8x256.size a) (x) (h1 : off 1 = 0) (r : Fin 8) (hr : r = x 1) :
    (Rect.unit (s := S80x8x256) off ![1, 8, 256] inb).emb x 1 = r :=
  Fin.ext (by subst hr; show off 1 + 1 * (x 1).val = (x 1).val; omega)

/-- and its lane. -/
theorem emb_lane (off : Fin 3 → ℕ) (inb : ∀ a, off a + (![1, 8, 256] : Fin 3 → ℕ) a ≤ S80x8x256.size a) (x) (h2 : off 2 = 0) (d : Fin 256) (hd : d = x 2) :
    (Rect.unit (s := S80x8x256) off ![1, 8, 256] inb).emb x 2 = d :=
  Fin.ext (by subst hd; show off 2 + 1 * (x 2).val = (x 2).val; omega)

section
variable (c : Dev nD) (A : Args) (v0 v1 v2 v3 v4 v5 v6 : FVec Ideal S8x256 .f32)
  (X17 : BufTy.Contents (Elt Ideal) A.a17.view.ty) (X18 : BufTy.Contents (Elt Ideal) A.a18.view.ty) (X19 : BufTy.Contents (Elt Ideal) A.a19.view.ty)

/-- What trip `k` of the loop carries on. -/
abbrev Args.tripR (k : Fin k0_t1_loop.trips) (acc : Carry) : Carry :=
  tripR_k0_t1 Variants.none c none i1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 v0 v1 v2 v3 v4 v5 v6 X17 X18 X19 k acc

/-- The stores of trip `k` of the loop. -/
abbrev Args.tripL (k : Fin k0_t1_loop.trips) (acc : Carry) : List (View.Piece (Elt Ideal) S80x8x256 .f32) :=
  tripL_k0_t1 Variants.none c none i1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 v0 v1 v2 v3 v4 v5 v6 X17 X18 X19 k acc

set_option maxHeartbeats 4000000 in
/-- A trip advances the recurrence by four steps. -/
theorem trip_state (k : Fin k0_t1_loop.trips) (acc : Carry) (h0 : ℕ → Fin 8 → Fin 256 → EReal)
    (hacc : ∀ (s : Fin 8) r d, comp acc s (ix2 r d) = scan (A.a17.view.read (Elt Ideal) X17) (A.a18.view.read (Elt Ideal) X18) h0 (4 * k.val) s.val r d)
    (s : Fin 8) (r : Fin 8) (d : Fin 256) :
    comp (A.tripR c v0 v1 v2 v3 v4 v5 v6 X17 X18 X19 k acc) s (ix2 r d)
      = scan (A.a17.view.read (Elt Ideal) X17) (A.a18.view.read (Elt Ideal) X18) h0 (4 * k.val + 4) s.val r d := by
  have e0 := hacc 0 r d
  have e1 := hacc 1 r d
  have e2 := hacc 2 r d
  have e3 := hacc 3 r d
  have e4 := hacc 4 r d
  have e5 := hacc 5 r d
  have e6 := hacc 6 r d
  have e7 := hacc 7 r d
  simp only [comp] at e0 e1 e2 e3 e4 e5 e6 e7
  unfold Args.tripR tripR_k0_t1 trip_k0_t1
  dsimp only
  fin_cases s <;>
  · simp only [comp, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay106, k0_pay107]
    simp only [addf_apply, mulf_apply, Ideal.addf_def, Ideal.mulf_def, load_row, offs k, e0, e1, e2, e3, e4, e5, e6, e7]
    simp only [scan_succ, Matrix.cons_val_zero, Matrix.cons_val_one, Nat.add_zero]
    rfl

end

end Cert.KernelIdeal.Run

end
-- ==== Proof.KPieces.lean ====
module

public import proofs.«01_k».proof.Proof.KTrip

@[expose] public section

set_option maxRecDepth 16384

noncomputable section

namespace Cert.KernelIdeal.Run

open Cert.KernelIdeal Cert.KernelIdeal.Gen
open Idealize.ShloMosaic Idealize.ShloMosaic.TcCoe

section
variable (c : Dev nD) (A : Args) (v0 v1 v2 v3 v4 v5 v6 : FVec Ideal S8x256 .f32)
  (X17 : BufTy.Contents (Elt Ideal) A.a17.view.ty) (X18 : BufTy.Contents (Elt Ideal) A.a18.view.ty) (X19 : BufTy.Contents (Elt Ideal) A.a19.view.ty)

set_option maxHeartbeats 4000000 in
/-- What a trip stores is the recurrence's output at its four steps. -/
theorem trip_pieces (k : Fin k0_t1_loop.trips) (acc : Carry) (h0 : ℕ → Fin 8 → Fin 256 → EReal)
    (hacc : ∀ (s : Fin 8) r d, comp acc s (ix2 r d) = scan (A.a17.view.read (Elt Ideal) X17) (A.a18.view.read (Elt Ideal) X18) h0 (4 * k.val) s.val r d) :
    ∀ p ∈ A.tripL c v0 v1 v2 v3 v4 v5 v6 X17 X18 X19 k acc, ∀ x,
      p.2 x = mixed (A.a17.view.read (Elt Ideal) X17) (A.a18.view.read (Elt Ideal) X18) (A.a19.view.read (Elt Ideal) X19) h0
        (p.1.emb x 0).val (p.1.emb x 1) (p.1.emb x 2) := by
  have e0 := fun r d => hacc 0 r d
  have e1 := fun r d => hacc 1 r d
  have e2 := fun r d => hacc 2 r d
  have e3 := fun r d => hacc 3 r d
  have e4 := fun r d => hacc 4 r d
  have e5 := fun r d => hacc 5 r d
  have e6 := fun r d => hacc 6 r d
  have e7 := fun r d => hacc 7 r d
  simp only [comp] at e0 e1 e2 e3 e4 e5 e6 e7
  unfold Args.tripL tripL_k0_t1 trip_k0_t1
  dsimp only
  simp only [List.forall_mem_cons]
  refine ⟨fun x => ?_, fun x => ?_, fun x => ?_, fun x => ?_, fun p hp => absurd hp (List.not_mem_nil)⟩ <;>
  · obtain ⟨r, hr⟩ : ∃ r : Fin 8, r = x 1 := ⟨_, rfl⟩
    obtain ⟨d, hd⟩ : ∃ d : Fin 256, d = x 2 := ⟨_, rfl⟩
    rw [emb_time _ _ _ (by simp only [offs_out k]; rfl) (by simp only [offs_out k]; rfl), emb_row _ _ _ (by simp only [offs_out k]; rfl) r hr, emb_lane _ _ _ (by simp only [offs_out k]; rfl) d hd]
    simp only [offs_out k, mixed, Fin.sum_univ_eight]
    simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay106, k0_pay107]
    simp only [cast_row _ _ _ r d hr hd, addf_apply, mulf_apply, Ideal.addf_def, Ideal.mulf_def, load_row, offs k, e0, e1, e2, e3, e4, e5, e6, e7]
    simp only [scan_succ, Matrix.cons_val_zero, Matrix.cons_val_one, Nat.add_zero]
    rfl

/-- What the loop holds before trip `k`: the carried vectors and the stores so far. -/
abbrev Args.steps (init : Carry) (k : ℕ) : Carry × List (View.Piece (Elt Ideal) S80x8x256 .f32) :=
  st_k0_t1 Variants.none c none i1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 v0 v1 v2 v3 v4 v5 v6 X17 X18 X19 init k

/-- The loop makes twenty trips. -/
theorem trips_eq : k0_t1_loop.trips = 20 := by decide +kernel

/-- Before trip `k` the loop has run the recurrence's first `4 * k` steps, and stored their outputs. -/
theorem steps_at (init : Carry) (h0 : ℕ → Fin 8 → Fin 256 → EReal)
    (hinit : ∀ (s : Fin 8) r d, comp init s (ix2 r d) = h0 s.val r d) (k : ℕ) (hk : k ≤ 20) :
    (∀ (s : Fin 8) r d, comp (A.steps c v0 v1 v2 v3 v4 v5 v6 X17 X18 X19 init k).1 s (ix2 r d)
      = scan (A.a17.view.read (Elt Ideal) X17) (A.a18.view.read (Elt Ideal) X18) h0 (4 * k) s.val r d)
    ∧ ∀ p ∈ (A.steps c v0 v1 v2 v3 v4 v5 v6 X17 X18 X19 init k).2, ∀ x,
      p.2 x = mixed (A.a17.view.read (Elt Ideal) X17) (A.a18.view.read (Elt Ideal) X18) (A.a19.view.read (Elt Ideal) X19) h0
        (p.1.emb x 0).val (p.1.emb x 1) (p.1.emb x 2) := by
  induction k with
  | zero => exact ⟨hinit, fun p hp => absurd hp List.not_mem_nil⟩
  | succ k ih =>
    obtain ⟨h1, h2⟩ := ih (by omega)
    have hk' : k < k0_t1_loop.trips := by rw [trips_eq]; omega
    have e := st_k0_t1_succ Variants.none c none i1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 v0 v1 v2 v3 v4 v5 v6 X17 X18 X19 init ⟨k, hk'⟩
    unfold Args.steps
    rw [e]
    refine ⟨fun s r d => trip_state c A v0 v1 v2 v3 v4 v5 v6 X17 X18 X19 ⟨k, hk'⟩ _ h0 h1 s r d, fun p hp => ?_⟩
    rcases List.mem_append.1 hp with h | h
    · exact trip_pieces c A v0 v1 v2 v3 v4 v5 v6 X17 X18 X19 ⟨k, hk'⟩ _ h0 h1 p h
    · exact h2 p h

end

end Cert.KernelIdeal.Run

end
-- ==== Proof.Spec.lean ====
module

public import Idealize.ShloMosaic.Lib.Pointwise

@[expose] public section

noncomputable section

/-! The layer as plain mathematics, one batch row at a time: a row is a sequence of steps, each with 128 channels. -/

namespace Cert.Layer

open Idealize.ShloMosaic

/-- The layer's weights. -/
structure Wt where
  /-- The layer norm's scale, -/
  g : Fin 128 → EReal
  /-- and its shift. -/
  b : Fin 128 → EReal
  /-- The input projection: 512 features of 128 channels. -/
  wi : Fin 512 → Fin 128 → EReal
  /-- The convolution's four taps per lane, -/
  cw : Fin 256 → Fin 4 → EReal
  /-- and its bias. -/
  cb : Fin 256 → EReal
  /-- The projection of a step to its time scale and its two coefficient vectors. -/
  wx : Fin 24 → Fin 256 → EReal
  /-- The time scale's projection back to the lanes, -/
  wd : Fin 256 → Fin 8 → EReal
  /-- and its bias. -/
  dtb : Fin 256 → EReal
  /-- The logarithms of the decay rates. -/
  al : Fin 256 → Fin 8 → EReal
  /-- The weight of the direct path. -/
  dv : Fin 256 → EReal
  /-- The output projection. -/
  wo : Fin 128 → Fin 256 → EReal

variable (W : Wt) (x : ℕ → Fin 128 → EReal)

/-- The mean of a step's channels. -/
def mean (t : ℕ) : EReal := Ideal.div (∑ c, x t c) (Ideal.ofBits .f32 0x43000000#32)

/-- Their variance. -/
def var (t : ℕ) : EReal := Ideal.div (∑ c, (x t c - mean x t) * (x t c - mean x t)) (Ideal.ofBits .f32 0x43000000#32)

/-- The normalised step. -/
def norm (t : ℕ) (c : Fin 128) : EReal :=
  (x t c - mean x t) * Ideal.rsqrt (var x t + Ideal.ofBits .f32 0x3727C5AC#32) * W.g c + W.b c

/-- Its input projection. -/
def proj (t : ℕ) (e : Fin 512) : EReal := ∑ c, norm W x t c * W.wi e c

/-- The half of the projection that the convolution reads, -/
def pre (t : ℕ) (d : Fin 256) : EReal := proj W x t ⟨d.val, by omega⟩

/-- and the half that gates the output. -/
def gate (t : ℕ) (d : Fin 256) : EReal := proj W x t ⟨256 + d.val, by omega⟩

/-- The convolution's input: three steps of zeros, then the sequence. -/
def padded (t : ℕ) (d : Fin 256) : EReal := if t < 3 then 0 else pre W x (t - 3) d

/-- The causal convolution over four steps. -/
def conv (t : ℕ) (d : Fin 256) : EReal :=
  W.cb d + padded W x (t + 0) d * W.cw d 0 + padded W x (t + 1) d * W.cw d 1 + padded W x (t + 2) d * W.cw d 2
    + padded W x (t + 3) d * W.cw d 3

/-- The activation: the convolution times its logistic. -/
def act (t : ℕ) (d : Fin 256) : EReal := conv W x t d * Ideal.logistic (conv W x t d)

/-- The projection of the activation: eight entries of the time scale, then two vectors of eight coefficients. -/
def coef (t : ℕ) (e : Fin 24) : EReal := ∑ d, act W x t d * W.wx e d

/-- The time scale before the softplus. -/
def rate (t : ℕ) (d : Fin 256) : EReal := (∑ r : Fin 8, coef W x t ⟨r.val, by omega⟩ * W.wd d r) + W.dtb d

/-- The softplus. -/
def softplus (v : EReal) : EReal := max v 0 + Ideal.log (1 + Ideal.exp (-(max v (-v))))

/-- The time scale. -/
def delta (t : ℕ) (d : Fin 256) : EReal := softplus (rate W x t d)

/-- How much of a component of the state a step keeps. -/
def keep (t : ℕ) (d : Fin 256) (s : Fin 8) : EReal := Ideal.exp (delta W x t d * -(Ideal.exp (W.al d s)))

/-- What a step adds to it. -/
def gain (t : ℕ) (d : Fin 256) (s : Fin 8) : EReal := delta W x t d * act W x t d * coef W x t ⟨8 + s.val, by omega⟩

/-- The state before step `t`. -/
def state : ℕ → Fin 256 → Fin 8 → EReal
  | 0 => fun _ _ => 0
  | t + 1 => fun d s => keep W x t d s * state t d s + gain W x t d s

/-- What the recurrence puts out at step `t`. -/
def scanned (t : ℕ) (d : Fin 256) : EReal := ∑ s : Fin 8, state W x (t + 1) d s * coef W x t ⟨16 + s.val, by omega⟩

/-- The gated output before its projection. -/
def gated (t : ℕ) (d : Fin 256) : EReal :=
  (scanned W x t d + act W x t d * W.dv d) * (gate W x t d * Ideal.logistic (gate W x t d))

/-- The layer's output: the projection added to the input. -/
def out (t : ℕ) (c : Fin 128) : EReal := x t c + ∑ d, gated W x t d * W.wo c d

end Cert.Layer

end
-- ==== Proof.KPay.lean ====
module

public import proofs.«01_k».proof.Proof.KFrame
public import proofs.«01_k».proof.Proof.Spec

@[expose] public section

set_option maxRecDepth 16384

noncomputable section

namespace Cert.KernelIdeal.Run

open Cert.KernelIdeal Cert.KernelIdeal.Gen Cert.Layer
open Idealize.ShloMosaic Idealize.ShloMosaic.TcCoe

/-- The blocks of one grid point hold the steps from `80 * n` of eight sequences, and the layer's weights. -/
structure Fits (W : Wt) (xs : Fin 8 → ℕ → Fin 128 → EReal) (n : ℕ) (X : Blk Ideal) : Prop where
  hx : ∀ (t : Fin 80) (r : Fin 8) (k : Fin 128), X.x0 (ix3 t r k) = xs r (80 * n + t.val) k
  hwi : ∀ (k : Fin 128) (e : Fin 512), X.x1 (ix2 k e) = W.wi e k
  hwx : ∀ (d : Fin 256) (e : Fin 24), X.x2 (ix2 d e) = W.wx e d
  hwd : ∀ (r : Fin 8) (d : Fin 256), X.x3 (ix2 r d) = W.wd d r
  hdtb : ∀ d : Fin 256, X.x4 (ix2 (n0 := 1) 0 d) = W.dtb d
  hcw : ∀ (k : Fin 4) (d : Fin 256), X.x5 (ix2 k d) = W.cw d k
  hcb : ∀ d : Fin 256, X.x6 (ix3 (n0 := 1) (n1 := 1) 0 0 d) = W.cb d
  hg : ∀ k : Fin 128, X.x7 (ix3 (n0 := 1) (n1 := 1) 0 0 k) = W.g k
  hb : ∀ k : Fin 128, X.x8 (ix3 (n0 := 1) (n1 := 1) 0 0 k) = W.b k
  hdv : ∀ d : Fin 256, X.x9 (ix3 (n0 := 1) (n1 := 1) 0 0 d) = W.dv d
  hal : ∀ (s : Fin 8) (d : Fin 256), X.x10 (ix2 s d) = W.al d s
  hwo : ∀ (d : Fin 256) (k : Fin 128), X.x11 (ix2 d k) = W.wo k d

section
variable (X : Blk Ideal) (T : Vec Ideal S3x8x256 .f32)

/-- The half of the input projection that the convolution reads. -/
def vpre : FVec Ideal S80x8x256 .f32 := k0_pay58 X.x0 X.x7 X.x8 X.x1

/-- The half that gates the output. -/
def vgate : FVec Ideal S80x8x256 .f32 := k0_pay59 X.x0 X.x7 X.x8 X.x1

/-- The taps of the convolution at one of its four steps. -/
def tap (k : Fin 4) : Vec Ideal S1x256 .f32 := fun j => X.x5 (ix2 k (j 1))

/-- The activation. -/
def vu : FVec Ideal S80x8x256 .f32 := k0_pay61 (vpre X) T X.x6 (tap X 0) (tap X 1) (tap X 2) (tap X 3)

/-- The activation as a matrix. -/
def vu2 : FVec Ideal S640x256 .f32 := k0_pay62 (vpre X) T X.x6 (tap X 0) (tap X 1) (tap X 2) (tap X 3)

/-- The time scale. -/
def vdelta : FVec Ideal S80x8x256 .f32 := k0_pay64 (vu2 X T) X.x2 X.x3 X.x4

/-- The time scale times the activation. -/
def vdu : FVec Ideal S80x8x256 .f32 := k0_pay65 (vu X T) (vu2 X T) X.x2 X.x3 X.x4

/-- The coefficients with which a step enters the state, -/
def vB : FVec Ideal S80x8x8 .f32 := k0_pay66 (vu2 X T) X.x2

/-- and those with which the state enters the output. -/
def vC : FVec Ideal S80x8x8 .f32 := k0_pay67 (vu2 X T) X.x2

/-- The decay rates. -/
def vrate : FVec Ideal S8x256 .f32 := k0_pay68 X.x10

end

section
variable {W : Wt} {xs : Fin 8 → ℕ → Fin 128 → EReal} {n : ℕ} {X : Blk Ideal} (F : Fits W xs n X) {T : Vec Ideal S3x8x256 .f32}
  (hT : ∀ (j : Fin 3) (r : Fin 8) (d : Fin 256), T (ix3 j r d) = padded W (xs r) (80 * n + j.val) d)
include F

/-- The half of the input projection that the convolution reads, at an index. -/
theorem vpre_at (t : Fin 80) (r : Fin 8) (d : Fin 256) : vpre X (ix3 t r d) = pre W (xs r) (80 * n + t.val) d := by
  unfold vpre
  pointwise [k0_pay58, k0_pay57, k0_pay56]
  simp only [F.hx, F.hwi, F.hg, F.hb]
  rfl

/-- The half that gates the output, at an index. -/
theorem vgate_at (t : Fin 80) (r : Fin 8) (d : Fin 256) : vgate X (ix3 t r d) = gate W (xs r) (80 * n + t.val) d := by
  unfold vgate
  pointwise [k0_pay59, k0_pay57, k0_pay56]
  simp only [F.hx, F.hwi, F.hg, F.hb]
  rfl

/-- A tap at a lane. -/
theorem tap_at (k : Fin 4) (d : Fin 256) : tap X k (ix2 (n0 := 1) 0 d) = W.cw d k := F.hcw k d

include hT

/-- The convolution's input, in the carried rows and then in the block. -/
theorem joined (r : Fin 8) (d : Fin 256) (m : ℕ) (hm : m - 3 < 80) :
    (if h : m < 3 then T (ix3 ⟨m, h⟩ r d) else vpre X (ix3 ⟨m - 3, hm⟩ r d)) = padded W (xs r) (80 * n + m) d := by
  by_cases h : m < 3
  · rw [dif_pos h]
    exact hT ⟨m, h⟩ r d
  · rw [dif_neg h, vpre_at F, padded, if_neg (by omega)]
    congr 1
    show 80 * n + (m - 3) = 80 * n + m - 3
    omega

/-- The activation at an index. -/
theorem vu_at (t : Fin 80) (r : Fin 8) (d : Fin 256) : vu X T (ix3 t r d) = act W (xs r) (80 * n + t.val) d := by
  have e3 : vpre X (ix3 t r d) = padded W (xs r) (80 * n + t.val + 3) d := by
    rw [vpre_at F, padded, if_neg (by omega)]
    rfl
  have e0 := joined F hT r d t.val (by omega)
  have e1 := joined F hT r d (1 + t.val) (by omega)
  have e2 := joined F hT r d (2 + t.val) (by omega)
  unfold vu
  pointwise [k0_pay61]
  rw [e0, e1, e2, e3]
  simp only [tap_at F, F.hcb]
  rw [show 80 * n + (1 + t.val) = 80 * n + t.val + 1 by omega, show 80 * n + (2 + t.val) = 80 * n + t.val + 2 by omega]
  rfl

omit hT F in
/-- The matrix is the activation. -/
theorem vu2_eq : vu2 X T = shapeCast S640x256 (vu X T) shapeCasts_S80x8x256_S640x256 := rfl

/-- The time scale at an index. -/
theorem vdelta_at (t : Fin 80) (r : Fin 8) (d : Fin 256) : vdelta X T (ix3 t r d) = delta W (xs r) (80 * n + t.val) d := by
  unfold vdelta
  rw [vu2_eq]
  pointwise [k0_pay64, k0_pay63]
  simp only [vu_at F hT, F.hwx, F.hwd, F.hdtb, Ideal.absf_def, zero_sub]
  rfl

/-- The time scale times the activation, at an index. -/
theorem vdu_at (t : Fin 80) (r : Fin 8) (d : Fin 256) :
    vdu X T (ix3 t r d) = delta W (xs r) (80 * n + t.val) d * act W (xs r) (80 * n + t.val) d := by
  rw [← vdelta_at F hT, ← vu_at F hT]
  rfl

/-- A step's coefficients into the state, at an index. -/
theorem vB_at (t : Fin 80) (r : Fin 8) (s : Fin 8) : vB X T (ix3 t r s) = coef W (xs r) (80 * n + t.val) ⟨8 + s.val, by omega⟩ := by
  unfold vB
  rw [vu2_eq]
  pointwise [k0_pay66, k0_pay63]
  simp only [vu_at F hT, F.hwx]
  rfl

/-- Its coefficients into the output, at an index. -/
theorem vC_at (t : Fin 80) (r : Fin 8) (s : Fin 8) : vC X T (ix3 t r s) = coef W (xs r) (80 * n + t.val) ⟨16 + s.val, by omega⟩ := by
  unfold vC
  rw [vu2_eq]
  pointwise [k0_pay67, k0_pay63]
  simp only [vu_at F hT, F.hwx]
  rfl

omit hT in
/-- A decay rate. -/
theorem vrate_at (s : Fin 8) (d : Fin 256) : vrate X (ix2 s d) = -(Ideal.exp (W.al d s)) := by
  unfold vrate
  pointwise [k0_pay68]
  rw [F.hal, zero_sub]

/-- The eight blocks of what a step keeps, one per component of the state. -/
theorem keep_slabs :
    (∀ t r d, k0_pay69 (vu2 X T) X.x2 X.x3 X.x4 X.x10 (ix4 (n0 := 1) 0 t r d) = keep W (xs r) (80 * n + t.val) d 0)
      ∧ (∀ t r d, k0_pay73 (vdelta X T) (vrate X) (ix4 (n0 := 1) 0 t r d) = keep W (xs r) (80 * n + t.val) d 1)
      ∧ (∀ t r d, k0_pay77 (k0_pay76 (vdelta X T) (vrate X)) (ix4 (n0 := 1) 0 t r d) = keep W (xs r) (80 * n + t.val) d 2)
      ∧ (∀ t r d, k0_pay80 (vdelta X T) (vrate X) (ix4 (n0 := 1) 0 t r d) = keep W (xs r) (80 * n + t.val) d 3)
      ∧ (∀ t r d, k0_pay84 (vdelta X T) (vrate X) (ix4 (n0 := 1) 0 t r d) = keep W (xs r) (80 * n + t.val) d 4)
      ∧ (∀ t r d, k0_pay87 (vdelta X T) (vrate X) (ix4 (n0 := 1) 0 t r d) = keep W (xs r) (80 * n + t.val) d 5)
      ∧ (∀ t r d, k0_pay91 (vdelta X T) (vrate X) (ix4 (n0 := 1) 0 t r d) = keep W (xs r) (80 * n + t.val) d 6)
      ∧ (∀ t r d, k0_pay95 (k0_pay94 (vdelta X T) (vrate X)) (ix4 (n0 := 1) 0 t r d) = keep W (xs r) (80 * n + t.val) d 7) := by
  have e : k0_pay69 (vu2 X T) X.x2 X.x3 X.x4 X.x10 = shapeCast S1x80x8x256 (exp (mulf (vdelta X T) (broadcastTo S80x8x256 (shapeCast S1x1x256 (extractStridedSlice S1x256 ![0, 0] (vrate X) slices_S8x256_o0_0_S1x256) shapeCasts_S1x256_S1x1x256) broadcasts_S1x1x256_S80x8x256))) shapeCasts_S80x8x256_S1x80x8x256 := rfl
  rw [e]
  refine ⟨?_, ?_, ?_, ?_, ?_, ?_, ?_, ?_⟩ <;>
  · intro t r d
    pointwise [k0_pay69, k0_pay73, k0_pay77, k0_pay80, k0_pay84, k0_pay87, k0_pay91, k0_pay95, k0_pay76, k0_pay94]
    rw [vdelta_at F hT, vrate_at F]; rfl

/-- The eight blocks of what a step adds. -/
theorem gain_slabs :
    (∀ t r d, k0_pay71 (k0_pay70 (vu X T) (vu2 X T) X.x2 X.x3 X.x4) (ix4 (n0 := 1) 0 t r d) = gain W (xs r) (80 * n + t.val) d 0)
      ∧ (∀ t r d, k0_pay74 (vdu X T) (vB X T) (ix4 (n0 := 1) 0 t r d) = gain W (xs r) (80 * n + t.val) d 1)
      ∧ (∀ t r d, k0_pay78 (vdu X T) (vB X T) (ix4 (n0 := 1) 0 t r d) = gain W (xs r) (80 * n + t.val) d 2)
      ∧ (∀ t r d, k0_pay81 (vdu X T) (vB X T) (ix4 (n0 := 1) 0 t r d) = gain W (xs r) (80 * n + t.val) d 3)
      ∧ (∀ t r d, k0_pay85 (vdu X T) (vB X T) (ix4 (n0 := 1) 0 t r d) = gain W (xs r) (80 * n + t.val) d 4)
      ∧ (∀ t r d, k0_pay89 (k0_pay88 (vdu X T) (vB X T)) (ix4 (n0 := 1) 0 t r d) = gain W (xs r) (80 * n + t.val) d 5)
      ∧ (∀ t r d, k0_pay92 (vdu X T) (vB X T) (ix4 (n0 := 1) 0 t r d) = gain W (xs r) (80 * n + t.val) d 6)
      ∧ (∀ t r d, k0_pay96 (vdu X T) (vB X T) (ix4 (n0 := 1) 0 t r d) = gain W (xs r) (80 * n + t.val) d 7) := by
  have e : k0_pay70 (vu X T) (vu2 X T) X.x2 X.x3 X.x4 = mulf (vdu X T) (broadcastTo S80x8x256 (extractStridedSlice S80x8x1 ![0, 0, 0] (vB X T) slices_S80x8x8_o0_0_0_S80x8x1) broadcasts_S80x8x1_S80x8x256) := rfl
  rw [e]
  refine ⟨?_, ?_, ?_, ?_, ?_, ?_, ?_, ?_⟩ <;>
  · intro t r d
    pointwise [k0_pay71, k0_pay74, k0_pay78, k0_pay81, k0_pay85, k0_pay89, k0_pay92, k0_pay96, k0_pay88]
    rw [vdu_at F hT, vB_at F hT]; rfl

/-- The eight blocks of the coefficients into the output. -/
theorem coef_slabs :
    (∀ t r d, k0_pay72 (vC X T) (ix4 (n0 := 1) 0 t r d) = coef W (xs r) (80 * n + t.val) 16)
      ∧ (∀ t r d, k0_pay75 (vC X T) (ix4 (n0 := 1) 0 t r d) = coef W (xs r) (80 * n + t.val) 17)
      ∧ (∀ t r d, k0_pay79 (vC X T) (ix4 (n0 := 1) 0 t r d) = coef W (xs r) (80 * n + t.val) 18)
      ∧ (∀ t r d, k0_pay83 (k0_pay82 (vC X T)) (ix4 (n0 := 1) 0 t r d) = coef W (xs r) (80 * n + t.val) 19)
      ∧ (∀ t r d, k0_pay86 (vC X T) (ix4 (n0 := 1) 0 t r d) = coef W (xs r) (80 * n + t.val) 20)
      ∧ (∀ t r d, k0_pay90 (vC X T) (ix4 (n0 := 1) 0 t r d) = coef W (xs r) (80 * n + t.val) 21)
      ∧ (∀ t r d, k0_pay93 (vC X T) (ix4 (n0 := 1) 0 t r d) = coef W (xs r) (80 * n + t.val) 22)
      ∧ (∀ t r d, k0_pay97 (vC X T) (ix4 (n0 := 1) 0 t r d) = coef W (xs r) (80 * n + t.val) 23) := by
  refine ⟨?_, ?_, ?_, ?_, ?_, ?_, ?_, ?_⟩ <;>
  · intro t r d
    pointwise [k0_pay72, k0_pay75, k0_pay79, k0_pay83, k0_pay86, k0_pay90, k0_pay93, k0_pay97, k0_pay82]
    rw [vC_at F hT]; rfl

omit hT in
/-- The output block at an index, from the recurrence's outputs. -/
theorem out_at (yy : Vec Ideal S80x8x256 .f32) (hT : ∀ (j : Fin 3) (r : Fin 8) (d : Fin 256), T (ix3 j r d) = padded W (xs r) (80 * n + j.val) d)
    (hy : ∀ (t : Fin 80) (r : Fin 8) (d : Fin 256), yy (ix3 t r d) = scanned W (xs r) (80 * n + t.val) d) (t : Fin 80) (r : Fin 8) (k : Fin 128) :
    k0_pay2 (k0_pay56 X.x0) (vgate X) (vu X T) yy X.x9 X.x11 (ix3 t r k) = out W (xs r) (80 * n + t.val) k := by
  pointwise [k0_pay2, k0_pay56]
  simp only [F.hx, F.hdv, F.hwo, hy, vu_at F hT, vgate_at F]
  rfl

omit hT in
/-- The rows carried to the next block, at an index. -/
theorem tail_at (j : Fin 3) (r : Fin 8) (d : Fin 256) : k0_pay60 (vpre X) (ix3 j r d) = padded W (xs r) (80 * (n + 1) + j.val) d := by
  pointwise [k0_pay60]
  rw [vpre_at F, padded, if_neg (by omega)]
  congr 1
  show 80 * n + (77 + j.val) = 80 * (n + 1) + j.val - 3
  omega

end

end Cert.KernelIdeal.Run

end
-- ==== Proof.KBlock.lean ====
module

public import proofs.«01_k».proof.Proof.KPieces
public import proofs.«01_k».proof.Proof.KPay
public import Idealize.ShloMosaic.Lib.WholeRead

@[expose] public section

set_option maxRecDepth 16384

noncomputable section

namespace Cert.KernelIdeal.Run

open Cert.KernelIdeal Cert.KernelIdeal.Gen Cert.Layer
open Idealize.ShloMosaic Idealize.ShloMosaic.TcCoe Idealize.ShloMosaic.Tactic

/-- A load of a whole buffer reads its contents. -/
theorem readAt_all {s : Shape} {m : Memref sig .tc .vmem s .f32} (h : m.IsWhole) (X : s.Idx → Elt Ideal .f32) {off : Fin s.rank → ℕ}
    (inb : ∀ a, off a + s.size a ≤ s.size a) :
    View.readAt (Elt Ideal) m.view (Rect.unit off s.size inb).toLoadRect (h.unread X) = X := by
  rw [View.readAt_full, h.read_unread]

/-- A load of one row of the taps. -/
theorem readAt_tap {m : Memref sig .tc .vmem S4x256 .f32} (h : m.IsWhole) (X : Blk Ideal) (off : Fin 2 → ℕ) (k : Fin 4) (h0 : off 0 = k.val) (h1 : off 1 = 0)
    (inb : ∀ a, off a + S1x256.size a ≤ S4x256.size a) :
    View.readAt (Elt Ideal) m.view (Rect.unit (s := S4x256) off S1x256.size inb).toLoadRect (h.unread X.x5) = tap X k := by
  funext y
  rw [h.readAt_unread]
  refine congrArg X.x5 (funext fun a => Fin.ext ?_)
  have hy : (y 0).val < 1 := (y 0).isLt
  match a with
  | ⟨0, _⟩ => show off 0 + 1 * (y 0).val = k.val; omega
  | ⟨1, _⟩ => show off 1 + 1 * (y 1).val = (y 1).val; omega

/-- What the loads of the input blocks and of the carried rows read. -/
theorem loads (A : Args) (X : Blk Ideal) (T : Vec Ideal S3x8x256 .f32) :
    (∀ inb, View.readAt (Elt Ideal) A.a2.view (Rect.unit (s := S80x8x128) ![0, 0, 0] ![80, 8, 128] inb).toLoadRect (A.h2.unread X.x0) = X.x0)
      ∧ (∀ inb, View.readAt (Elt Ideal) A.a3.view (Rect.unit (s := S128x512) ![0, 0] ![128, 512] inb).toLoadRect (A.h3.unread X.x1) = X.x1)
      ∧ (∀ inb, View.readAt (Elt Ideal) A.a4.view (Rect.unit (s := S256x24) ![0, 0] ![256, 24] inb).toLoadRect (A.h4.unread X.x2) = X.x2)
      ∧ (∀ inb, View.readAt (Elt Ideal) A.a5.view (Rect.unit (s := S8x256) ![0, 0] ![8, 256] inb).toLoadRect (A.h5.unread X.x3) = X.x3)
      ∧ (∀ inb, View.readAt (Elt Ideal) A.a6.view (Rect.unit (s := S1x256) ![0, 0] ![1, 256] inb).toLoadRect (A.h6.unread X.x4) = X.x4)
      ∧ (∀ inb, View.readAt (Elt Ideal) A.a8.view (Rect.unit (s := S1x1x256) ![0, 0, 0] ![1, 1, 256] inb).toLoadRect (A.h8.unread X.x6) = X.x6)
      ∧ (∀ inb, View.readAt (Elt Ideal) A.a9.view (Rect.unit (s := S1x1x128) ![0, 0, 0] ![1, 1, 128] inb).toLoadRect (A.h9.unread X.x7) = X.x7)
      ∧ (∀ inb, View.readAt (Elt Ideal) A.a10.view (Rect.unit (s := S1x1x128) ![0, 0, 0] ![1, 1, 128] inb).toLoadRect (A.h10.unread X.x8) = X.x8)
      ∧ (∀ inb, View.readAt (Elt Ideal) A.a11.view (Rect.unit (s := S1x1x256) ![0, 0, 0] ![1, 1, 256] inb).toLoadRect (A.h11.unread X.x9) = X.x9)
      ∧ (∀ inb, View.readAt (Elt Ideal) A.a12.view (Rect.unit (s := S8x256) ![0, 0] ![8, 256] inb).toLoadRect (A.h12.unread X.x10) = X.x10)
      ∧ (∀ inb, View.readAt (Elt Ideal) A.a13.view (Rect.unit (s := S256x128) ![0, 0] ![256, 128] inb).toLoadRect (A.h13.unread X.x11) = X.x11)
      ∧ (∀ inb, View.readAt (Elt Ideal) A.a15.view (Rect.unit (s := S3x8x256) ![0, 0, 0] ![3, 8, 256] inb).toLoadRect (A.h15.unread T) = T)
      ∧ (∀ inb, View.readAt (Elt Ideal) A.a7.view (Rect.unit (s := S4x256) ![0, 0] ![1, 256] inb).toLoadRect (A.h7.unread X.x5) = tap X 0)
      ∧ (∀ inb, View.readAt (Elt Ideal) A.a7.view (Rect.unit (s := S4x256) ![1, 0] ![1, 256] inb).toLoadRect (A.h7.unread X.x5) = tap X 1)
      ∧ (∀ inb, View.readAt (Elt Ideal) A.a7.view (Rect.unit (s := S4x256) ![2, 0] ![1, 256] inb).toLoadRect (A.h7.unread X.x5) = tap X 2)
      ∧ (∀ inb, View.readAt (Elt Ideal) A.a7.view (Rect.unit (s := S4x256) ![3, 0] ![1, 256] inb).toLoadRect (A.h7.unread X.x5) = tap X 3) :=
  ⟨fun inb => readAt_all A.h2 X.x0 inb,
    fun inb => readAt_all A.h3 X.x1 inb,
    fun inb => readAt_all A.h4 X.x2 inb,
    fun inb => readAt_all A.h5 X.x3 inb,
    fun inb => readAt_all A.h6 X.x4 inb,
    fun inb => readAt_all A.h8 X.x6 inb,
    fun inb => readAt_all A.h9 X.x7 inb,
    fun inb => readAt_all A.h10 X.x8 inb,
    fun inb => readAt_all A.h11 X.x9 inb,
    fun inb => readAt_all A.h12 X.x10 inb,
    fun inb => readAt_all A.h13 X.x11 inb,
    fun inb => readAt_all A.h15 T inb,
    fun inb => readAt_tap A.h7 X _ 0 rfl rfl inb,
    fun inb => readAt_tap A.h7 X _ 1 rfl rfl inb,
    fun inb => readAt_tap A.h7 X _ 2 rfl rfl inb,
    fun inb => readAt_tap A.h7 X _ 3 rfl rfl inb⟩

/-- Reading a buffer over components, time steps, rows and lanes that was filled one component at a time. -/
theorem read_slabs (v : View sig .tc .vmem S8x80x8x256 .f32) (f : BufTy.Contents (Elt Ideal) v.ty) (G : S8x80x8x256.Idx → EReal)
    (w0 w1 w2 w3 w4 w5 w6 w7 : Vec Ideal S1x80x8x256 .f32)
    (e0 : ∀ t r d, w0 (ix4 (n0 := 1) 0 t r d) = G (ix4 (n0 := 8) 0 t r d)) (e1 : ∀ t r d, w1 (ix4 (n0 := 1) 0 t r d) = G (ix4 (n0 := 8) 1 t r d)) (e2 : ∀ t r d, w2 (ix4 (n0 := 1) 0 t r d) = G (ix4 (n0 := 8) 2 t r d)) (e3 : ∀ t r d, w3 (ix4 (n0 := 1) 0 t r d) = G (ix4 (n0 := 8) 3 t r d)) (e4 : ∀ t r d, w4 (ix4 (n0 := 1) 0 t r d) = G (ix4 (n0 := 8) 4 t r d)) (e5 : ∀ t r d, w5 (ix4 (n0 := 1) 0 t r d) = G (ix4 (n0 := 8) 5 t r d)) (e6 : ∀ t r d, w6 (ix4 (n0 := 1) 0 t r d) = G (ix4 (n0 := 8) 6 t r d)) (e7 : ∀ t r d, w7 (ix4 (n0 := 1) 0 t r d) = G (ix4 (n0 := 8) 7 t r d)) :
    v.read (Elt Ideal) (v.writes (Elt Ideal) f [⟨Rect.unit (s := S8x80x8x256) ![7, 0, 0, 0] S1x80x8x256.size inb_S8x80x8x256_S1x80x8x256_7_0_0_0, w7⟩, ⟨Rect.unit (s := S8x80x8x256) ![6, 0, 0, 0] S1x80x8x256.size inb_S8x80x8x256_S1x80x8x256_6_0_0_0, w6⟩, ⟨Rect.unit (s := S8x80x8x256) ![5, 0, 0, 0] S1x80x8x256.size inb_S8x80x8x256_S1x80x8x256_5_0_0_0, w5⟩, ⟨Rect.unit (s := S8x80x8x256) ![4, 0, 0, 0] S1x80x8x256.size inb_S8x80x8x256_S1x80x8x256_4_0_0_0, w4⟩, ⟨Rect.unit (s := S8x80x8x256) ![3, 0, 0, 0] S1x80x8x256.size inb_S8x80x8x256_S1x80x8x256_3_0_0_0, w3⟩, ⟨Rect.unit (s := S8x80x8x256) ![2, 0, 0, 0] S1x80x8x256.size inb_S8x80x8x256_S1x80x8x256_2_0_0_0, w2⟩, ⟨Rect.unit (s := S8x80x8x256) ![1, 0, 0, 0] S1x80x8x256.size inb_S8x80x8x256_S1x80x8x256_1_0_0_0, w1⟩, ⟨Rect.unit (s := S8x80x8x256) ![0, 0, 0, 0] S1x80x8x256.size inb_S8x80x8x256_S1x80x8x256_0_0_0_0, w0⟩]) = G := by
  funext y
  refine View.read_writes_apply_of_pieces v f G _ ?_ y (View.cover_of_tiledL (s := S8x80x8x256) _ S1x80x8x256.size (by sl_kernel_rfl) y)
  have key : ∀ (s : Fin 8) (w : Vec Ideal S1x80x8x256 .f32) (off : Fin 4 → ℕ) (inb : ∀ a, off a + S1x80x8x256.size a ≤ S8x80x8x256.size a)
      (h0 : off 0 = s.val) (h1 : off 1 = 0) (h2 : off 2 = 0) (h3 : off 3 = 0) (e : ∀ t r d, w (ix4 (n0 := 1) 0 t r d) = G (ix4 s t r d)) (x : S1x80x8x256.Idx),
      w x = G ((Rect.unit (s := S8x80x8x256) off S1x80x8x256.size inb).emb x) := by
    intro s w off inb h0 h1 h2 h3 e x
    have hx : (x 0).val < 1 := (x 0).isLt
    have ex : x = ix4 (n0 := 1) 0 (x 1) (x 2) (x 3) := by
      funext a
      match a with
      | ⟨0, _⟩ => exact Fin.ext (by show (x 0).val = 0; omega)
      | ⟨1, _⟩ => rfl
      | ⟨2, _⟩ => rfl
      | ⟨3, _⟩ => rfl
    refine (congrArg w ex).trans ((e _ _ _).trans (congrArg G (funext fun a => Fin.ext ?_)))
    match a with
    | ⟨0, _⟩ => show s.val = off 0 + 1 * (x 0).val; omega
    | ⟨1, _⟩ => show (x 1).val = off 1 + 1 * (x 1).val; omega
    | ⟨2, _⟩ => show (x 2).val = off 2 + 1 * (x 2).val; omega
    | ⟨3, _⟩ => show (x 3).val = off 3 + 1 * (x 3).val; omega
  simp only [List.forall_mem_cons]
  exact ⟨key 7 w7 _ _ rfl rfl rfl rfl e7, key 6 w6 _ _ rfl rfl rfl rfl e6, key 5 w5 _ _ rfl rfl rfl rfl e5, key 4 w4 _ _ rfl rfl rfl rfl e4, key 3 w3 _ _ rfl rfl rfl rfl e3, key 2 w2 _ _ rfl rfl rfl rfl e2, key 1 w1 _ _ rfl rfl rfl rfl e1, key 0 w0 _ _ rfl rfl rfl rfl e0, fun p hp => absurd hp List.not_mem_nil⟩

/-- The same for the buffer over components, rows and lanes. -/
theorem read_rows (v : View sig .tc .vmem S8x8x256 .f32) (f : BufTy.Contents (Elt Ideal) v.ty) (G : S8x8x256.Idx → EReal)
    (w0 w1 w2 w3 w4 w5 w6 w7 : Vec Ideal S1x8x256 .f32)
    (e0 : ∀ r d, w0 (ix3 (n0 := 1) 0 r d) = G (ix3 (n0 := 8) 0 r d)) (e1 : ∀ r d, w1 (ix3 (n0 := 1) 0 r d) = G (ix3 (n0 := 8) 1 r d)) (e2 : ∀ r d, w2 (ix3 (n0 := 1) 0 r d) = G (ix3 (n0 := 8) 2 r d)) (e3 : ∀ r d, w3 (ix3 (n0 := 1) 0 r d) = G (ix3 (n0 := 8) 3 r d)) (e4 : ∀ r d, w4 (ix3 (n0 := 1) 0 r d) = G (ix3 (n0 := 8) 4 r d)) (e5 : ∀ r d, w5 (ix3 (n0 := 1) 0 r d) = G (ix3 (n0 := 8) 5 r d)) (e6 : ∀ r d, w6 (ix3 (n0 := 1) 0 r d) = G (ix3 (n0 := 8) 6 r d)) (e7 : ∀ r d, w7 (ix3 (n0 := 1) 0 r d) = G (ix3 (n0 := 8) 7 r d)) :
    v.read (Elt Ideal) (v.writes (Elt Ideal) f [⟨Rect.unit (s := S8x8x256) ![7, 0, 0] S1x8x256.size inb_S8x8x256_S1x8x256_7_0_0, w7⟩, ⟨Rect.unit (s := S8x8x256) ![6, 0, 0] S1x8x256.size inb_S8x8x256_S1x8x256_6_0_0, w6⟩, ⟨Rect.unit (s := S8x8x256) ![5, 0, 0] S1x8x256.size inb_S8x8x256_S1x8x256_5_0_0, w5⟩, ⟨Rect.unit (s := S8x8x256) ![4, 0, 0] S1x8x256.size inb_S8x8x256_S1x8x256_4_0_0, w4⟩, ⟨Rect.unit (s := S8x8x256) ![3, 0, 0] S1x8x256.size inb_S8x8x256_S1x8x256_3_0_0, w3⟩, ⟨Rect.unit (s := S8x8x256) ![2, 0, 0] S1x8x256.size inb_S8x8x256_S1x8x256_2_0_0, w2⟩, ⟨Rect.unit (s := S8x8x256) ![1, 0, 0] S1x8x256.size inb_S8x8x256_S1x8x256_1_0_0, w1⟩, ⟨Rect.unit (s := S8x8x256) ![0, 0, 0] S1x8x256.size inb_S8x8x256_S1x8x256_0_0_0, w0⟩]) = G := by
  funext y
  refine View.read_writes_apply_of_pieces v f G _ ?_ y (View.cover_of_tiledL (s := S8x8x256) _ S1x8x256.size (by sl_kernel_rfl) y)
  have key : ∀ (s : Fin 8) (w : Vec Ideal S1x8x256 .f32) (off : Fin 3 → ℕ) (inb : ∀ a, off a + S1x8x256.size a ≤ S8x8x256.size a)
      (h0 : off 0 = s.val) (h1 : off 1 = 0) (h2 : off 2 = 0) (e : ∀ r d, w (ix3 (n0 := 1) 0 r d) = G (ix3 s r d)) (x : S1x8x256.Idx),
      w x = G ((Rect.unit (s := S8x8x256) off S1x8x256.size inb).emb x) := by
    intro s w off inb h0 h1 h2 e x
    have hx : (x 0).val < 1 := (x 0).isLt
    have ex : x = ix3 (n0 := 1) 0 (x 1) (x 2) := by
      funext a
      match a with
      | ⟨0, _⟩ => exact Fin.ext (by show (x 0).val = 0; omega)
      | ⟨1, _⟩ => rfl
      | ⟨2, _⟩ => rfl
    refine (congrArg w ex).trans ((e _ _).trans (congrArg G (funext fun a => Fin.ext ?_)))
    match a with
    | ⟨0, _⟩ => show s.val = off 0 + 1 * (x 0).val; omega
    | ⟨1, _⟩ => show (x 1).val = off 1 + 1 * (x 1).val; omega
    | ⟨2, _⟩ => show (x 2).val = off 2 + 1 * (x 2).val; omega
  simp only [List.forall_mem_cons]
  exact ⟨key 7 w7 _ _ rfl rfl rfl e7, key 6 w6 _ _ rfl rfl rfl e6, key 5 w5 _ _ rfl rfl rfl e5, key 4 w4 _ _ rfl rfl rfl e4, key 3 w3 _ _ rfl rfl rfl e3, key 2 w2 _ _ rfl rfl rfl e2, key 1 w1 _ _ rfl rfl rfl e1, key 0 w0 _ _ rfl rfl rfl e0, fun p hp => absurd hp List.not_mem_nil⟩

section
variable (W : Wt) (xs : Fin 8 → ℕ → Fin 128 → EReal) (n : ℕ)

/-- What every step of the block keeps of every component. -/
def keepB : S8x80x8x256.Idx → EReal := fun y => keep W (xs (y 2)) (80 * n + (y 1).val) (y 3) (y 0)

/-- What every step of the block adds to every component. -/
def gainB : S8x80x8x256.Idx → EReal := fun y => gain W (xs (y 2)) (80 * n + (y 1).val) (y 3) (y 0)

/-- The coefficients of every component in the block's outputs, the same in every lane. -/
def coefB : S8x80x8x256.Idx → EReal := fun y => coef W (xs (y 2)) (80 * n + (y 1).val) ⟨16 + (y 0).val, by have h : (y 0).val < 8 := (y 0).isLt; omega⟩

/-- The state before the block. -/
def stateB : ℕ → Fin 8 → Fin 256 → EReal := fun s r d => if h : s < 8 then state W (xs r) (80 * n) d ⟨s, h⟩ else 0

/-- The block's recurrence is the sequence's, from the block's first step on. -/
theorem scan_eq (m : ℕ) (hm : m ≤ 80) (s r : Fin 8) (d : Fin 256) :
    scan (keepB W xs n) (gainB W xs n) (stateB W xs n) m s.val r d = state W (xs r) (80 * n + m) d s := by
  induction m with
  | zero => exact dif_pos s.isLt
  | succ m ih =>
    rw [scan_succ, ih (by omega), at4, at4, dif_pos ⟨s.isLt, by omega⟩, dif_pos ⟨s.isLt, by omega⟩]
    rfl

/-- And so are its outputs. -/
theorem mixed_eq (m : ℕ) (hm : m < 80) (r : Fin 8) (d : Fin 256) :
    mixed (keepB W xs n) (gainB W xs n) (coefB W xs n) (stateB W xs n) m r d = scanned W (xs r) (80 * n + m) d := by
  unfold mixed scanned
  refine Finset.sum_congr rfl fun s _ => ?_
  rw [scan_eq W xs n (m + 1) (by omega), at4, dif_pos ⟨s.isLt, hm⟩]
  rfl

end

section
variable (c : Dev nD) (A : Args) (X : Blk Ideal) (T : Vec Ideal S3x8x256 .f32) (H : Vec Ideal S8x8x256 .f32)

/-- The stores of what the steps keep. -/
abbrev Args.keeps : List (View.Piece (Elt Ideal) S8x80x8x256 .f32) := bodyRun.sl.HS2_8 c A.a2 A.h2 A.a3 A.h3 A.a4 A.h4 A.a5 A.h5 A.a6 A.h6 A.a7 A.h7 A.a8 A.h8 A.a9 A.h9 A.a10 A.h10 A.a12 A.h12 A.a15 A.h15 X.x0 X.x1 X.x2 X.x3 X.x4 X.x5 X.x6 X.x7 X.x8 X.x10 T

/-- The stores of what they add. -/
abbrev Args.gains : List (View.Piece (Elt Ideal) S8x80x8x256 .f32) := bodyRun.sl.HS3_8 c A.a2 A.h2 A.a3 A.h3 A.a4 A.h4 A.a5 A.h5 A.a6 A.h6 A.a7 A.h7 A.a8 A.h8 A.a9 A.h9 A.a10 A.h10 A.a15 A.h15 X.x0 X.x1 X.x2 X.x3 X.x4 X.x5 X.x6 X.x7 X.x8 T

/-- The stores of the coefficients into the outputs. -/
abbrev Args.coefs : List (View.Piece (Elt Ideal) S8x80x8x256 .f32) := bodyRun.sl.HS4_8 c A.a2 A.h2 A.a3 A.h3 A.a4 A.h4 A.a7 A.h7 A.a8 A.h8 A.a9 A.h9 A.a10 A.h10 A.a15 A.h15 X.x0 X.x1 X.x2 X.x5 X.x6 X.x7 X.x8 T

/-- The vectors with which the recurrence's loop starts. -/
abbrev Args.start : Carry := (bodyRun.sl.r_15 c A.a16 A.h16 H, bodyRun.sl.r_16 c A.a16 A.h16 H, bodyRun.sl.r_17 c A.a16 A.h16 H, bodyRun.sl.r_18 c A.a16 A.h16 H, bodyRun.sl.r_19 c A.a16 A.h16 H, bodyRun.sl.r_20 c A.a16 A.h16 H, bodyRun.sl.r_21 c A.a16 A.h16 H,
    k0_pay105 (View.readAt (Elt Ideal) A.a16.view (Rect.unit (s := S8x8x256) ![7, 0, 0] S1x8x256.size inb_S8x8x256_S1x8x256_7_0_0).toLoadRect (A.h16.unread H)))

/-- What the loop leaves. -/
abbrev Args.done : Carry × List (View.Piece (Elt Ideal) S80x8x256 .f32) :=
  st_k0_t1 Variants.none c none i1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 (bodyRun.sl.r_15 c A.a16 A.h16 H) (bodyRun.sl.r_16 c A.a16 A.h16 H) (bodyRun.sl.r_17 c A.a16 A.h16 H) (bodyRun.sl.r_18 c A.a16 A.h16 H) (bodyRun.sl.r_19 c A.a16 A.h16 H) (bodyRun.sl.r_20 c A.a16 A.h16 H) (bodyRun.sl.r_21 c A.a16 A.h16 H)
    (A.a17.view.writes (Elt Ideal) A.a17.view.junk (A.keeps c X T)) (A.a18.view.writes (Elt Ideal) A.a18.view.junk (A.gains c X T))
    (A.a19.view.writes (Elt Ideal) A.a19.view.junk (A.coefs c X T)) (A.start c H) (Scf.trips 0#32 (Scalar.addi 0#32 20#32) 1#32)

variable {W : Wt} {xs : Fin 8 → ℕ → Fin 128 → EReal} {n : ℕ} {X} (F : Fits W xs n X) {T}
  (hT : ∀ (j : Fin 3) (r : Fin 8) (d : Fin 256), T (ix3 j r d) = padded W (xs r) (80 * n + j.val) d) {H}
  (hH : ∀ (s r : Fin 8) (d : Fin 256), H (ix3 s r d) = state W (xs r) (80 * n) d s)

include F hT

set_option maxHeartbeats 4000000 in
/-- The buffer of what the steps keep, once filled. -/
theorem read_keeps : A.a17.view.read (Elt Ideal) (A.a17.view.writes (Elt Ideal) A.a17.view.junk (A.keeps c X T)) = keepB W xs n := by
  obtain ⟨e0, e1, e2, e3, e4, e5, e6, e7⟩ := keep_slabs F hT
  unfold Args.keeps bodyRun.sl.HS2_8 bodyRun.sl.r_14 bodyRun.sl.r_11 bodyRun.sl.r_9 bodyRun.sl.r_5 bodyRun.sl.r_4 bodyRun.sl.r_1
  simp only [loads A X T]
  exact read_slabs _ _ _ _ _ _ _ _ _ _ _ e0 e1 e2 e3 e4 e5 e6 e7

set_option maxHeartbeats 4000000 in
/-- The buffer of what they add, once filled. -/
theorem read_gains : A.a18.view.read (Elt Ideal) (A.a18.view.writes (Elt Ideal) A.a18.view.junk (A.gains c X T)) = gainB W xs n := by
  obtain ⟨e0, e1, e2, e3, e4, e5, e6, e7⟩ := gain_slabs F hT
  unfold Args.gains bodyRun.sl.HS3_8 bodyRun.sl.r_13 bodyRun.sl.r_10 bodyRun.sl.r_7 bodyRun.sl.r_6 bodyRun.sl.r_4 bodyRun.sl.r_3 bodyRun.sl.r_1
  simp only [loads A X T]
  exact read_slabs _ _ _ _ _ _ _ _ _ _ _ e0 e1 e2 e3 e4 e5 e6 e7

set_option maxHeartbeats 4000000 in
/-- The buffer of the coefficients into the outputs, once filled. -/
theorem read_coefs : A.a19.view.read (Elt Ideal) (A.a19.view.writes (Elt Ideal) A.a19.view.junk (A.coefs c X T)) = coefB W xs n := by
  obtain ⟨e0, e1, e2, e3, e4, e5, e6, e7⟩ := coef_slabs F hT
  unfold Args.coefs bodyRun.sl.HS4_8 bodyRun.sl.r_12 bodyRun.sl.r_8 bodyRun.sl.r_4 bodyRun.sl.r_1
  simp only [loads A X T]
  exact read_slabs _ _ _ _ _ _ _ _ _ _ _ e0 e1 e2 e3 e4 e5 e6 e7

omit F hT
/-- A row of the carried state, as the kernel loads it. -/
theorem load_state {m : Memref sig .tc .vmem S8x8x256 .f32} (h : m.IsWhole) (off : Fin 3 → ℕ) (s : Fin 8) (h0 : off 0 = s.val) (h1 : off 1 = 0) (h2 : off 2 = 0)
    (inb : ∀ a, off a + S1x8x256.size a ≤ S8x8x256.size a) (hs : S1x8x256.ShapeCasts S8x256) (r : Fin 8) (d : Fin 256) :
    shapeCast (s := S1x8x256) (α := Ideal FTy.f32) S8x256 (View.readAt (Elt Ideal) m.view (Rect.unit (s := S8x8x256) off S1x8x256.size inb).toLoadRect (h.unread H)) hs (ix2 r d) = H (ix3 s r d) := by
  have e : ∀ w : FVec Ideal S1x8x256 .f32, shapeCast S8x256 w hs (ix2 r d) = w (ix3 (n0 := 1) 0 r d) := fun w => by pointwise
  rw [e, h.readAt_unread]
  refine congrArg H (funext fun a => Fin.ext ?_)
  match a with
  | ⟨0, _⟩ => show off 0 + 1 * 0 = s.val; omega
  | ⟨1, _⟩ => show off 1 + 1 * r.val = r.val; omega
  | ⟨2, _⟩ => show off 2 + 1 * d.val = d.val; omega

include hH

/-- The loop starts from the state before the block. -/
theorem start_at (s r : Fin 8) (d : Fin 256) : comp (A.start c H) s (ix2 r d) = stateB W xs n s.val r d := by
  rw [stateB, dif_pos s.isLt, ← hH]
  unfold Args.start bodyRun.sl.r_15 bodyRun.sl.r_16 bodyRun.sl.r_17 bodyRun.sl.r_18 bodyRun.sl.r_19 bodyRun.sl.r_20 bodyRun.sl.r_21
  fin_cases s

  · exact load_state A.h16 _ 0 rfl rfl rfl _ _ r d
  · exact load_state A.h16 _ 1 rfl rfl rfl _ _ r d
  · exact load_state A.h16 _ 2 rfl rfl rfl _ _ r d
  · exact load_state A.h16 _ 3 rfl rfl rfl _ _ r d
  · exact load_state A.h16 _ 4 rfl rfl rfl _ _ r d
  · exact load_state A.h16 _ 5 rfl rfl rfl _ _ r d
  · exact load_state A.h16 _ 6 rfl rfl rfl _ _ r d
  · exact load_state A.h16 _ 7 rfl rfl rfl _ _ r d

include F hT

/-- The loop leaves the state after the block, and the block's outputs. -/
theorem done_at : (∀ (s : Fin 8) r d, comp (A.done c X T H).1 s (ix2 r d) = state W (xs r) (80 * (n + 1)) d s)
    ∧ ∀ p ∈ (A.done c X T H).2, ∀ x, p.2 x = scanned W (xs (p.1.emb x 1)) (80 * n + (p.1.emb x 0).val) (p.1.emb x 2) := by
  have h := steps_at c A (bodyRun.sl.r_15 c A.a16 A.h16 H) (bodyRun.sl.r_16 c A.a16 A.h16 H) (bodyRun.sl.r_17 c A.a16 A.h16 H) (bodyRun.sl.r_18 c A.a16 A.h16 H) (bodyRun.sl.r_19 c A.a16 A.h16 H) (bodyRun.sl.r_20 c A.a16 A.h16 H) (bodyRun.sl.r_21 c A.a16 A.h16 H)
    (A.a17.view.writes (Elt Ideal) A.a17.view.junk (A.keeps c X T)) (A.a18.view.writes (Elt Ideal) A.a18.view.junk (A.gains c X T))
    (A.a19.view.writes (Elt Ideal) A.a19.view.junk (A.coefs c X T)) (A.start c H) (stateB W xs n) (start_at c A hH) 20 (le_refl 20)
  rw [read_keeps c A F hT, read_gains c A F hT, read_coefs c A F hT] at h
  have e : Scf.trips 0#32 (Scalar.addi 0#32 20#32) 1#32 = 20 := trips_eq
  unfold Args.done
  rw [e]
  refine ⟨fun s r d => (h.1 s r d).trans (scan_eq W xs n 80 (le_refl 80) s r d), fun p hp x => (h.2 p hp x).trans ?_⟩
  exact mixed_eq W xs n _ (p.1.emb x 0).isLt _ _

set_option maxHeartbeats 4000000 in
/-- What one call leaves in the rows it carries on: the last three of the convolution's input. -/
theorem tailV_at (j : Fin 3) (r : Fin 8) (d : Fin 256) : A.tailV c X T H (ix3 j r d) = padded W (xs r) (80 * (n + 1) + j.val) d := by
  unfold Args.tailV Args.run bodyRun
  dsimp only
  unfold bodyRun.sl.HS0_1 bodyRun.sl.r_1
  rw [View.read_writes_full]
  simp only [loads A X T]
  exact tail_at F j r d

set_option maxHeartbeats 4000000 in
/-- What one call leaves in the state it carries on: the sequences' states after the block. -/
theorem stateV_at (s r : Fin 8) (d : Fin 256) : A.stateV c X T H (ix3 s r d) = state W (xs r) (80 * (n + 1)) d s := by
  have h := (done_at c A F hT hH).1
  have e := read_rows A.a16.view A.a16.view.junk (fun y => state W (xs (y 1)) (80 * (n + 1)) (y 2) (y 0))
    _ _ _ _ _ _ _ _ (fun r d => (cast_row (A.done c X T H).1.1 shapeCasts_S8x256_S1x8x256 _ r d rfl rfl).trans (h 0 r d))
    (fun r d => (cast_row (A.done c X T H).1.2.1 shapeCasts_S8x256_S1x8x256 _ r d rfl rfl).trans (h 1 r d))
    (fun r d => (cast_row (A.done c X T H).1.2.2.1 shapeCasts_S8x256_S1x8x256 _ r d rfl rfl).trans (h 2 r d))
    (fun r d => (cast_row (A.done c X T H).1.2.2.2.1 shapeCasts_S8x256_S1x8x256 _ r d rfl rfl).trans (h 3 r d))
    (fun r d => (cast_row (A.done c X T H).1.2.2.2.2.1 shapeCasts_S8x256_S1x8x256 _ r d rfl rfl).trans (h 4 r d))
    (fun r d => (cast_row (A.done c X T H).1.2.2.2.2.2.1 shapeCasts_S8x256_S1x8x256 _ r d rfl rfl).trans (h 5 r d))
    (fun r d => (cast_row (A.done c X T H).1.2.2.2.2.2.2.1 shapeCasts_S8x256_S1x8x256 _ r d rfl rfl).trans (h 6 r d))
    (fun r d => (cast_row (A.done c X T H).1.2.2.2.2.2.2.2 shapeCasts_S8x256_S1x8x256 _ r d rfl rfl).trans (h 7 r d))
  have e' := congrFun e (ix3 s r d)
  refine Eq.trans ?_ e'
  unfold Args.stateV Args.run bodyRun
  dsimp only
  unfold bodyRun.sl.r_22 k0_pay108 k0_pay109 k0_pay110 k0_pay111 k0_pay112 k0_pay113 k0_pay114 k0_pay1
  rfl

set_option maxHeartbeats 4000000 in
/-- What one call leaves in its output block: the layer's outputs at the block's steps. -/
theorem outV_at (t : Fin 80) (r : Fin 8) (k : Fin 128) : A.outV c X T H (ix3 t r k) = out W (xs r) (80 * n + t.val) k := by
  have h := (done_at c A F hT hH).2
  have hy : ∀ (f : BufTy.Contents (Elt Ideal) A.a20.view.ty) (y : S80x8x256.Idx), A.a20.view.read (Elt Ideal) (A.a20.view.writes (Elt Ideal) f (A.done c X T H).2) y
      = scanned W (xs (y 1)) (80 * n + (y 0).val) (y 2) := fun f y =>
    View.read_writes_apply_of_pieces A.a20.view f (fun y => scanned W (xs (y 1)) (80 * n + (y 0).val) (y 2)) _ h y
      (View.cover_of_tiledL (s := S80x8x256) _ S1x8x256.size (by sl_kernel_rfl) y)
  unfold Args.outV Args.run bodyRun
  dsimp only
  unfold bodyRun.sl.v312 bodyRun.sl.r bodyRun.sl.r_3 bodyRun.sl.r_2 bodyRun.sl.r_1
  have eo := fun w => View.read_writes_full (Val := Elt Ideal) A.a14.view A.a14.view.junk inb_S80x8x128_S80x8x128_0_0_0 w []
  refine (congrFun (eo _) (ix3 t r k)).trans ?_
  simp only [loads A X T]
  refine out_at F _ hT (fun t r d => ?_) t r k
  have ey := View.readAt_full A.a20.view (A.a20.view.writes (Elt Ideal) (A.h20.unread anySteps) (A.done c X T H).2) inb_S80x8x256_S80x8x256_0_0_0
  exact (congrFun ey _).trans (hy _ _)

end

end Cert.KernelIdeal.Run

end
-- ==== Proof.Data.lean ====
module

public import proofs.«01_k».proof.Proof.Spec
public import proofs.«01_k».proof.Defs
public import Idealize.ShloMosaic.Lib.Pointwise

@[expose] public section

/-! The argument arrays of both programs, read as the sequences and the weights of the layer. The array of shape
2 × 128 × 40 × 40 × 40 is split into 16 sequences: a sequence is a batch entry with one corner of every 2 × 2 × 2
cube, and its 8000 time steps are the cubes in order. -/

set_option maxRecDepth 16384

noncomputable section

open Idealize.ShloMosaic Idealize.ShloMosaic.TcCoe
open Cert.KernelIdeal

namespace Cert.Layer

/-- The input at time step `t` and channel `k` of sequence `b`. -/
def seq (X : FVec Ideal S2x128x40x40x40 .f32) (b : Fin 16) (t : ℕ) (k : Fin 128) : EReal :=
  X (ix5 (n0 := 2) (n1 := 128) (n2 := 40) (n3 := 40) (n4 := 40) ⟨b.val / 8, by omega⟩ k ⟨t / 400 % 20 * 2 + b.val / 4 % 2, by omega⟩
    ⟨t / 20 % 20 * 2 + b.val / 2 % 2, by omega⟩ ⟨t % 20 * 2 + b.val % 2, by omega⟩)

/-- The sequence of a place of the image. -/
def seqAt (n : Fin 2) (z y x : Fin 40) : Fin 16 := ⟨n.val * 8 + z.val % 2 * 4 + y.val % 2 * 2 + x.val % 2, by omega⟩

/-- The time step of a place of the image. -/
def timeAt (z y x : Fin 40) : ℕ := z.val / 2 * 400 + y.val / 2 * 20 + x.val / 2

/-- The weights of the layer, read off the argument arrays. -/
def weights (a1 a2 : FVec Ideal S128 .f32) (a3 : FVec Ideal S512x128 .f32) (a4 : FVec Ideal S256x4 .f32)
    (a5 : FVec Ideal S256 .f32) (a6 : FVec Ideal S24x256 .f32) (a7 : FVec Ideal S256x8 .f32) (a8 : FVec Ideal S256 .f32)
    (a9 : FVec Ideal S256x8 .f32) (a10 : FVec Ideal S256 .f32) (a11 : FVec Ideal S128x256 .f32) : Wt where
  g k := a1 (ix1 k)
  b k := a2 (ix1 k)
  wi e k := a3 (ix2 e k)
  cw d k := a4 (ix2 d k)
  cb d := a5 (ix1 d)
  wx e d := a6 (ix2 e d)
  wd d r := a7 (ix2 d r)
  dtb d := a8 (ix1 d)
  al d s := a9 (ix2 d s)
  dv d := a10 (ix1 d)
  wo k d := a11 (ix2 k d)

end Cert.Layer

end
-- ==== Proof.KValue.lean ====
module

public import proofs.«01_k».proof.Proof.KBlock
public import proofs.«01_k».proof.Proof.KLaunch
public import proofs.«01_k».proof.Proof.Data
public import Idealize.ShloMosaic.Lib.Pipeline.ValueKit
public import Idealize.ShloMosaic.Lib.StableHlo.RunRead

@[expose] public section

/-! The result array of the idealized kernel: at every place it holds the layer's output for that sequence and time. -/

set_option maxRecDepth 16384

noncomputable section

open Idealize.ShloMosaic Idealize.ShloMosaic.TcCoe
open Idealize.SL.Sem
open Idealize.ShloMosaic.Pipeline (Dat)

namespace Cert.KernelIdeal.Run

open Cert.KernelIdeal Cert.KernelIdeal.Gen Cert.Layer

variable (m : (ℓ : Loc nD τ sig) → Buf (Elt Ideal) ℓ)

/-- The layer's weights as the launch finds them. -/
def wOf (c : Dev nD) : Wt :=
  weights (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- The launch's sequence `b`. -/
def xOf (c : Dev nD) (b : Fin 16) : ℕ → Fin 128 → EReal := seq (m ((c : Thread nD τ).loc main_arg0)) b

/-- The sequence in row `r` of the `i`-th group of eight. -/
def row (i : ℕ) (r : Fin 8) : Fin 16 := ⟨(8 * i + r.val) % 16, Nat.mod_lt _ (by decide)⟩

/-- The block indices of the windows that move with the grid point, and the bound on the group. -/
theorem idx : ∀ t : Fin cfg0.N, win0_0.index t = ![t.val % 100, t.val / 100, 0] ∧ win0_12.index t = ![t.val % 100, t.val / 100, 0] ∧ t.val / 100 < 2 :=
  (by decide +kernel : ∀ t : Fin grid0.N, _)

/-- The region finds the input rearranged into sequences. -/
theorem V_x (c : Dev nD) (t : Fin 8000) (b : Fin 16) (k : Fin 128) : V m c main_v2 (ix3 t b k) = xOf m c b t.val k := by
  unfold V V0
  simp only [List.flatten_cons, List.flatten_nil, List.append_nil, hostOps0]
  after_reads_simp
  pointwise [xOf, seq]
  have ht : t.val / 400 % 20 = t.val / 400 := by omega
  simp only [ht]

/-- The region finds every weight array transposed or reshaped. -/
theorem V_weights (c : Dev nD) :
    (∀ k e, V m c main_v3 (ix2 k e) = (wOf m c).wi e k) ∧ (∀ d e, V m c main_v4 (ix2 d e) = (wOf m c).wx e d)
    ∧ (∀ r d, V m c main_v5 (ix2 r d) = (wOf m c).wd d r) ∧ (∀ d, V m c main_v6 (ix2 (n0 := 1) 0 d) = (wOf m c).dtb d)
    ∧ (∀ k d, V m c main_v7 (ix2 k d) = (wOf m c).cw d k) ∧ (∀ d, V m c main_v8 (ix3 (n0 := 1) (n1 := 1) 0 0 d) = (wOf m c).cb d)
    ∧ (∀ k, V m c main_v9 (ix3 (n0 := 1) (n1 := 1) 0 0 k) = (wOf m c).g k) ∧ (∀ k, V m c main_v10 (ix3 (n0 := 1) (n1 := 1) 0 0 k) = (wOf m c).b k)
    ∧ (∀ d, V m c main_v11 (ix3 (n0 := 1) (n1 := 1) 0 0 d) = (wOf m c).dv d) ∧ (∀ s d, V m c main_v12 (ix2 s d) = (wOf m c).al d s)
    ∧ (∀ d k, V m c main_v13 (ix2 d k) = (wOf m c).wo k d) := by
  unfold V V0
  simp only [List.flatten_cons, List.flatten_nil, List.append_nil, hostOps0]
  refine ⟨?_, ?_, ?_, ?_, ?_, ?_, ?_, ?_, ?_, ?_, ?_⟩ <;> intros <;> after_reads_simp <;> pointwise [wOf, weights] <;> rfl

/-- A block at index zero keeps every position. -/
theorem emb_zero {G : Pipeline.Grid} (w : Pipeline.Window sig G) (t : Fin G.N) (h : ∀ a, w.index t a = 0) (y : (w.xblock (G.coords t)).Idx)
    (z : w.shape.Idx) (hz : ∀ a, (y a : ℕ) = z a) : (w.rect t).emb y = z :=
  funext fun a => Fin.ext ((Pipeline.Window.rect_emb_val_of_index_zero w t a (h a) y).trans (hz a))

/-- A position of a moving block in its array. -/
theorem emb_block {G : Pipeline.Grid} (w : Pipeline.Window sig G) (t : Fin G.N) (hk : w.kind = .blocked) (y : (w.xblock (G.coords t)).Idx)
    (z : w.shape.Idx) (hz : ∀ a, w.index t a * w.size a + y a = z a) : (w.rect t).emb y = z :=
  funext fun a => Fin.ext ((Pipeline.Window.rect_emb_val w t y a hk).trans (hz a))

/-- The input block at a grid point, read off the rearranged input. -/
theorem read_x (Y : FVec Ideal S8000x16x128 .f32) (t : Fin cfg0.N) (p : Fin 80) (r : Fin 8) (k : Fin 128) (T : Fin 8000) (B : Fin 16)
    (hT : T.val = t.val % 100 * 80 + p.val) (hB : B.val = t.val / 100 * 8 + r.val) :
    ((cfg0.win 0).blk t).view.read (Elt Ideal) Y (ix3 p r k) = Y (ix3 T B k) := by
  refine congrArg Y (emb_block win0_0 t rfl (ix3 p r k) (ix3 T B k) fun a => ?_)
  rw [(idx t).1]
  match a with
  | ⟨0, _⟩ => exact hT.symm
  | ⟨1, _⟩ => exact hB.symm
  | ⟨2, _⟩ => exact Nat.zero_add _

/-- A position of the output block at a grid point in the output array. -/
theorem emb_out (t : Fin cfg0.N) (p : Fin 80) (r : Fin 8) (k : Fin 128) (T : Fin 8000) (B : Fin 16)
    (hT : T.val = t.val % 100 * 80 + p.val) (hB : B.val = t.val / 100 * 8 + r.val) :
    (win0_12.rect t).emb (ix3 p r k) = ix3 T B k := by
  refine emb_block win0_12 t rfl (ix3 p r k) (ix3 T B k) fun a => ?_
  rw [(idx t).2.1]
  match a with
  | ⟨0, _⟩ => exact hT.symm
  | ⟨1, _⟩ => exact hB.symm
  | ⟨2, _⟩ => exact Nat.zero_add _

/-- The windows of the weights stay at block zero. -/
theorem idx_zero : ∀ t : Fin cfg0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) ∧ (∀ a, win0_11.index t a = 0) :=
  (by decide +kernel : ∀ t : Fin grid0.N, _)

set_option maxHeartbeats 1600000 in
/-- The input blocks at a grid point are the weights and the point's stretch of its eight sequences. -/
theorem fits (c : Dev nD) (t : Fin cfg0.N) :
    Fits (wOf m c) (fun r => xOf m c (row (t.val / 100) r)) (t.val % 100) (blkAt m c t) := by
  obtain ⟨v3, v4, v5, v6, v7, v8, v9, v10, v11, v12, v13⟩ := V_weights m c
  obtain ⟨w1, w2, w3, w4, w5, w6, w7, w8, w9, w10, w11⟩ := idx_zero t
  have h2 := (idx t).2.2
  constructor
  case hx =>
    intro p r k
    dsimp only [blkAt]
    unfold iblk
    have hp := p.isLt
    have hr := r.isLt
    have hn : t.val % 100 < 100 := Nat.mod_lt _ (by decide)
    generalize hq : t.val % 100 = q at hn
    generalize hi : t.val / 100 = i at h2
    refine (read_x (V m c main_v2) t p r k ⟨80 * q + p.val, by omega⟩ (row i r) ?_ ?_).trans (V_x m c _ _ _)
    · rw [hq]; show 80 * q + p.val = q * 80 + p.val; omega
    · rw [hi]; show (8 * i + r.val) % 16 = i * 8 + r.val; omega
  case hwi => exact fun k e => (congrArg (V m c main_v3) (emb_zero win0_1 t w1 (ix2 k e) (ix2 k e) fun _ => rfl)).trans (v3 k e)
  case hwx => exact fun d e => (congrArg (V m c main_v4) (emb_zero win0_2 t w2 (ix2 d e) (ix2 d e) fun _ => rfl)).trans (v4 d e)
  case hwd => exact fun r d => (congrArg (V m c main_v5) (emb_zero win0_3 t w3 (ix2 r d) (ix2 r d) fun _ => rfl)).trans (v5 r d)
  case hdtb => exact fun d => (congrArg (V m c main_v6) (emb_zero win0_4 t w4 (ix2 (n0 := 1) 0 d) (ix2 (n0 := 1) 0 d) fun _ => rfl)).trans (v6 d)
  case hcw => exact fun k d => (congrArg (V m c main_v7) (emb_zero win0_5 t w5 (ix2 k d) (ix2 k d) fun _ => rfl)).trans (v7 k d)
  case hcb => exact fun d => (congrArg (V m c main_v8) (emb_zero win0_6 t w6 (ix3 (n0 := 1) (n1 := 1) 0 0 d) (ix3 (n0 := 1) (n1 := 1) 0 0 d) fun _ => rfl)).trans (v8 d)
  case hg => exact fun k => (congrArg (V m c main_v9) (emb_zero win0_7 t w7 (ix3 (n0 := 1) (n1 := 1) 0 0 k) (ix3 (n0 := 1) (n1 := 1) 0 0 k) fun _ => rfl)).trans (v9 k)
  case hb => exact fun k => (congrArg (V m c main_v10) (emb_zero win0_8 t w8 (ix3 (n0 := 1) (n1 := 1) 0 0 k) (ix3 (n0 := 1) (n1 := 1) 0 0 k) fun _ => rfl)).trans (v10 k)
  case hdv => exact fun d => (congrArg (V m c main_v11) (emb_zero win0_9 t w9 (ix3 (n0 := 1) (n1 := 1) 0 0 d) (ix3 (n0 := 1) (n1 := 1) 0 0 d) fun _ => rfl)).trans (v11 d)
  case hal => exact fun s d => (congrArg (V m c main_v12) (emb_zero win0_10 t w10 (ix2 s d) (ix2 s d) fun _ => rfl)).trans (v12 s d)
  case hwo => exact fun d k => (congrArg (V m c main_v13) (emb_zero win0_11 t w11 (ix2 d k) (ix2 d k) fun _ => rfl)).trans (v13 d k)

/-- The fresh carried buffers hold zero. -/
theorem zeros : (∀ j r d, k0_pay54 (F := Ideal) (ix3 j r d) = (0 : EReal))
    ∧ (∀ s r d, k0_pay55 (F := Ideal) (ix3 s r d) = (0 : EReal)) := by
  constructor <;> intros <;> pointwise [k0_pay54, k0_pay55] <;> rfl

/-- Before every grid point the carried buffers hold the last three inputs of the convolution and the scan's state. -/
theorem start_ok (c : Dev nD) : ∀ (n : ℕ) (h : n < cfg0.N),
    (∀ j r d, startT (grid0.coords ⟨n, h⟩) (carried m c n).1 (ix3 j r d) = padded (wOf m c) (xOf m c (row (n / 100) r)) (80 * (n % 100) + j.val) d)
    ∧ (∀ s r d, startH (grid0.coords ⟨n, h⟩) (carried m c n).2 (ix3 s r d) = state (wOf m c) (xOf m c (row (n / 100) r)) (80 * (n % 100)) d s) := by
  have fresh : ∀ (n : ℕ) (h : n < cfg0.N), n % 100 = 0 →
      (∀ j r d, startT (grid0.coords ⟨n, h⟩) (carried m c n).1 (ix3 j r d) = padded (wOf m c) (xOf m c (row (n / 100) r)) (80 * (n % 100) + j.val) d)
      ∧ (∀ s r d, startH (grid0.coords ⟨n, h⟩) (carried m c n).2 (ix3 s r d) = state (wOf m c) (xOf m c (row (n / 100) r)) (80 * (n % 100)) d s) := by
    intro n h h0
    have hc : cond (grid0.coords ⟨n, h⟩) := (cond_iff ⟨n, h⟩).mpr h0
    unfold startT startH
    rw [if_pos hc, if_pos hc, h0]
    refine ⟨fun j r d => (zeros.1 j r d).trans ?_, fun s r d => (zeros.2 s r d).trans ?_⟩
    · unfold padded
      rw [if_pos (by have := j.isLt; clear * - this; omega)]
    · rfl
  intro n
  induction n with
  | zero => exact fun h => fresh 0 h rfl
  | succ n ih =>
    intro h
    by_cases h0 : (n + 1) % 100 = 0
    · exact fresh (n + 1) h h0
    · have hn : n < cfg0.N := Nat.lt_of_succ_lt h
      obtain ⟨hT, hH⟩ := ih hn
      have hc : ¬ cond (grid0.coords ⟨n + 1, h⟩) := fun hc => h0 ((cond_iff ⟨n + 1, h⟩).mp hc)
      have e1 : (n + 1) / 100 = n / 100 := by clear * - h0; omega
      have e2 : (n + 1) % 100 = n % 100 + 1 := by clear * - h0; omega
      unfold startT startH
      rw [if_neg hc, if_neg hc, e1, e2, carried_succ m c ⟨n, hn⟩]
      have k1 := tailV_at c (argsAt ⟨n, hn⟩) (fits m c ⟨n, hn⟩) hT hH
      have k2 := stateV_at c (argsAt ⟨n, hn⟩) (fits m c ⟨n, hn⟩) hT hH
      dsimp only
      exact ⟨k1, k2⟩

/-- The output block at a grid point. -/
theorem outAt_at (c : Dev nD) (t : Fin cfg0.N) (p : Fin 80) (r : Fin 8) (k : Fin 128) :
    outAt m c t (ix3 p r k) = out (wOf m c) (xOf m c (row (t.val / 100) r)) (80 * (t.val % 100) + p.val) k := by
  obtain ⟨hT, hH⟩ := start_ok m c t.val t.isLt
  exact outV_at c (argsAt t) (fits m c t) hT hH p r k

/-- The output array: the layer's output for every sequence and time. -/
def outArr (c : Dev nD) : FVec Ideal S8000x16x128 .f32 := fun i => out (wOf m c) (xOf m c (i 1)) (i 0).val (i 2)

/-- The output array after the run. -/
theorem final (c : Dev nD) : (dats m 0 c).arrAt 12 (cfgs 0).N = outArr m c := by
  refine (dats m 0 c).arrAt_eq_of_covers 12 _ (by decide +kernel) fun t _ y => ?_
  rw [after_12]
  obtain ⟨p, hp⟩ : ∃ p : Fin 80, p = y 0 := ⟨_, rfl⟩
  obtain ⟨r, hr⟩ : ∃ r : Fin 8, r = y 1 := ⟨_, rfl⟩
  obtain ⟨k, hk⟩ : ∃ k : Fin 128, k = y 2 := ⟨_, rfl⟩
  have hy : y = ix3 p r k := by
    funext a
    match a with
    | ⟨0, _⟩ => exact hp.symm
    | ⟨1, _⟩ => exact hr.symm
    | ⟨2, _⟩ => exact hk.symm
  subst hy
  have h2 := (idx t).2.2
  have hn : t.val % 100 < 100 := Nat.mod_lt _ (by decide)
  have hT : 80 * (t.val % 100) + p.val < 8000 := by have := p.isLt; clear * - this hn; omega
  have e := emb_out t p r k ⟨80 * (t.val % 100) + p.val, hT⟩ (row (t.val / 100) r) (by clear * -; show 80 * (t.val % 100) + p.val = t.val % 100 * 80 + p.val; omega)
    (by have := r.isLt; clear * - this h2; show (8 * (t.val / 100) + r.val) % 16 = _; omega)
  refine (outAt_at m c t p r k).trans ?_
  exact (congrArg (outArr m c) e).symm

/-- The result array after the host lines that put the sequences back in place. -/
def resultArr (c : Dev nD) : Buf (Elt Ideal) ((c : Thread nD τ).loc main_v17) := Pipeline.afterTail₀ cfgs (dats m) 0 (V0 m) [hostOps1] c main_v17

/-- The result at a place of the image: the layer's output of that place's sequence at that place's time. -/
theorem result (c : Dev nD) (n : Fin 2) (k : Fin 128) (z y x : Fin 40) :
    resultArr m c (ix5 n k z y x) = out (wOf m c) (xOf m c (seqAt n z y x)) (timeAt z y x) k := by
  have e : Pipeline.withArrays (cfgs 0).spec c (V0 m c) (fun w => (dats m 0 c).arrAt w (cfgs 0).N) (Proc.devRef .tc main_v14) = outArr m c :=
    (Pipeline.withArrays_arr spec0 launch0.win.arr_inj c (V0 m c) (fun w => (dats m 0 c).arrAt w (cfgs 0).N) 12).trans (final m c)
  unfold resultArr Pipeline.afterTail₀
  generalize Pipeline.withArrays (cfgs 0).spec c (V0 m c) (fun w => (dats m 0 c).arrAt w (cfgs 0).N) = U at e
  simp only [List.flatten_cons, List.flatten_nil, List.append_nil, hostOps1]
  after_reads_simp
  rw [e]
  pointwise [outArr, seqAt, timeAt]

end Cert.KernelIdeal.Run

end
-- ==== Proof.RTrip.lean ====
module

public import proofs.«01_k».proof.Proof.RFrame
public import proofs.«01_k».proof.Proof.Data
public import Idealize.ShloMosaic.Lib.StableHlo.RunRead
public import Idealize.ShloMosaic.Lib.Pointwise
public import Idealize.ShloMosaic.Lib.WordCmp

@[expose] public section

/-! One trip of the reference's loop, as the recurrence's step. -/

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen Cert.ReferenceIdeal.Value Cert.Layer

/-- The starts of the trip's row reads: the counter, then nothing. -/
theorem starts (V : IVec S_ 32) (k : ℕ) (hk : k < 8000) (hV : V = fun _ => Scf.iv 0#32 1#32 k) (a : Fin 3) :
    (((![V, constantI S_ 32 0#32, constantI S_ 32 0#32] : Fin 3 → (⟨S_, .i32⟩ : BufTy).Contents (Elt Ideal))) a (Shape.Idx.first h_S_)).toInt
      = ((![k, 0, 0] : Fin 3 → ℕ) a : Int) := by
  subst hV
  match a with
  | 0 =>
    show (Scf.iv 0#32 1#32 k).toInt = (k : Int)
    rw [Scf.iv_eq_ofInt, BitVec.toInt_ofInt]
    simp only [BitVec.toInt_zero, show ((1#32 : BitVec 32).toInt) = 1 from rfl, mul_one, zero_add]
    exact Int.bmod_eq_of_le (by omega) (by omega)
  | 1 => rfl
  | 2 => rfl

/-- Row `k` of an array with 256 lanes, as a trip reads it. -/
theorem row_wide (x : FVec Ideal S8000x16x256 .f32) (start : Fin 3 → Int) (k : ℕ) (hk : k < 8000)
    (hs : ∀ a, start a = ((![k, 0, 0] : Fin 3 → ℕ) a : Int)) :
    shapeCast S16x256 (Host.dynamicSlice S1x16x256 x start sliceFits_S8000x16x256_S1x16x256) shapeCasts_S1x16x256_S16x256
      = fun i => x (ix3 (⟨k, hk⟩ : Fin 8000) (i 0) (i 1)) := by
  have hf : S8000x16x256.Slices ![k, 0, 0] S1x16x256 := ⟨rfl, fun a => by
    match a with
    | 0 => show k + 1 ≤ 8000; omega
    | 1 => exact (by decide : 0 + 16 ≤ 16)
    | 2 => exact (by decide : 0 + 256 ≤ 256)⟩
  rw [WordCmp.dynamicSlice_eq_extract _ _ _ _ _ hf hs]
  funext i
  idx_vars i
  pointwise

/-- The same with 8 lanes. -/
theorem row_narrow (x : FVec Ideal S8000x16x8 .f32) (start : Fin 3 → Int) (k : ℕ) (hk : k < 8000)
    (hs : ∀ a, start a = ((![k, 0, 0] : Fin 3 → ℕ) a : Int)) :
    shapeCast S16x8 (Host.dynamicSlice S1x16x8 x start sliceFits_S8000x16x8_S1x16x8) shapeCasts_S1x16x8_S16x8
      = fun i => x (ix3 (⟨k, hk⟩ : Fin 8000) (i 0) (i 1)) := by
  have hf : S8000x16x8.Slices ![k, 0, 0] S1x16x8 := ⟨rfl, fun a => by
    match a with
    | 0 => show k + 1 ≤ 8000; omega
    | 1 => exact (by decide : 0 + 16 ≤ 16)
    | 2 => exact (by decide : 0 + 8 ≤ 8)⟩
  rw [WordCmp.dynamicSlice_eq_extract _ _ _ _ _ hf hs]
  funext i
  idx_vars i
  pointwise

/-- A trip's write: row `k` is the update, every other row is kept. -/
theorem row_write (x : FVec Ideal S8000x16x256 .f32) (u : FVec Ideal S1x16x256 .f32) (start : Fin 3 → Int) (k : ℕ) (hk : k < 8000)
    (hs : ∀ a, start a = ((![k, 0, 0] : Fin 3 → ℕ) a : Int)) (t : Fin 8000) (b : Fin 16) (d : Fin 256) :
    Host.dynamicUpdateSlice x u start updateFits_S8000x16x256_S1x16x256 (ix3 t b d)
      = if t.val = k then u (ix3 (n0 := 1) 0 b d) else x (ix3 t b d) := by
  have hf : S8000x16x256.Slices ![k, 0, 0] S1x16x256 := ⟨rfl, fun a => by
    match a with
    | 0 => show k + 1 ≤ 8000; omega
    | 1 => exact (by decide : 0 + 16 ≤ 16)
    | 2 => exact (by decide : 0 + 256 ≤ 256)⟩
  rw [WordCmp.dynamicUpdateSlice_eq_update _ _ _ _ _ hf hs]
  pointwise
  by_cases h : t.val = k
  · rw [dif_pos (by omega), if_pos h]
    simp only [h, Nat.sub_self]
    rfl
  · rw [dif_neg (by omega), if_neg h]

/-- Eight of a step's coefficients, from number `o` on, for every step and sequence. -/
def coefs (W : Wt) (x : Fin 16 → ℕ → Fin 128 → EReal) (o : ℕ) (ho : o + 8 ≤ 24) : FVec Ideal S8000x16x8 .f32 :=
  fun i => coef W (x (i 1)) (i 0).val ⟨o + (i 2).val, have h : (i 2).val < 8 := (i 2).isLt; by omega⟩

/-- What the loop carries before trip `k`: the per-step inputs, the counter, the state, and the rows put out so far. -/
structure At (W : Wt) (x : Fin 16 → ℕ → Fin 128 → EReal) (k : ℕ) (X : Valuation τ sig (Elt Ideal)) : Prop where
  /-- the time scales, -/
  dt : X (Proc.devRef .tc main_v74_0) = fun i => delta W (x (i 1)) (i 0).val (i 2)
  /-- the first coefficients, -/
  cb : X (Proc.devRef .tc main_v74_1) = coefs W x 8 (by omega)
  /-- the second, -/
  cc : X (Proc.devRef .tc main_v74_2) = coefs W x 16 (by omega)
  /-- the activations, -/
  u : X (Proc.devRef .tc main_v74_3) = fun i => act W (x (i 1)) (i 0).val (i 2)
  /-- the decay rates, -/
  a : X (Proc.devRef .tc main_v74_4) = fun i => -(Ideal.exp (W.al (i 0) (i 1)))
  /-- the counter, -/
  n : X (Proc.devRef .tc main_v74_5) = fun _ => Scf.iv 0#32 1#32 k
  /-- the state, -/
  h : X (Proc.devRef .tc main_v74_6) = fun i => state W (x (i 0)) k (i 1) (i 2)
  /-- and the rows. -/
  y : X (Proc.devRef .tc main_v74_7) = fun i => if (i 0).val < k then scanned W (x (i 1)) (i 0).val (i 2) else 0

variable {W : Wt} {x : Fin 16 → ℕ → Fin 128 → EReal} {k : ℕ} {X : Valuation τ sig (Elt Ideal)}

/-- The state's step, of its operands' values. -/
theorem state_value {D U : FVec Ideal S16x256 .f32} {A : FVec Ideal S256x8 .f32} {S : FVec Ideal S16x256x8 .f32} {B : FVec Ideal S16x8 .f32}
    (hD : D = fun i => delta W (x (i 0)) k (i 1)) (hU : U = fun i => act W (x (i 0)) k (i 1)) (hA : A = fun i => -(Ideal.exp (W.al (i 0) (i 1))))
    (hS : S = fun i => state W (x (i 0)) k (i 1) (i 2))
    (hB : B = fun i : S16x8.Idx => coef W (x (i 0)) k ⟨8 + (i 1).val, have h : (i 1).val < 8 := (i 1).isLt; by omega⟩) :
    addf (mulf (Host.exp (mulf (broadcastInDim S16x256x8 ![0, 1, 2] bcast_S16x256x1_S16x256x8_0_1_2 (broadcastInDim S16x256x1 ![0, 1] bcast_S16x256_S16x256x1_0_1 D))
        (broadcastInDim S16x256x8 ![0, 1, 2] bcast_S1x256x8_S16x256x8_0_1_2 (broadcastInDim S1x256x8 ![1, 2] bcast_S256x8_S1x256x8_1_2 A)))) S)
      (mulf (broadcastInDim S16x256x8 ![0, 1, 2] bcast_S16x256x1_S16x256x8_0_1_2 (broadcastInDim S16x256x1 ![0, 1] bcast_S16x256_S16x256x1_0_1 (mulf D U)))
        (broadcastInDim S16x256x8 ![0, 1, 2] bcast_S16x1x8_S16x256x8_0_1_2 (broadcastInDim S16x1x8 ![0, 2] bcast_S16x8_S16x1x8_0_2 B)))
      = fun i => state W (x (i 0)) (k + 1) (i 1) (i 2) := by
  subst hD hU hA hS hB
  funext i
  idx_vars i
  pointwise
  rfl

/-- The rows' step, of its operands' values. -/
theorem rows_value {Y : FVec Ideal S8000x16x256 .f32} {S : FVec Ideal S16x256x8 .f32} {C : FVec Ideal S16x8 .f32} {V : IVec S_ 32}
    (hk : k < 8000) (hV : V = fun _ => Scf.iv 0#32 1#32 k)
    (hY : Y = fun i => if (i 0).val < k then scanned W (x (i 1)) (i 0).val (i 2) else 0)
    (hS : S = fun i => state W (x (i 0)) (k + 1) (i 1) (i 2))
    (hC : C = fun i : S16x8.Idx => coef W (x (i 0)) k ⟨16 + (i 1).val, have h : (i 1).val < 8 := (i 1).isLt; by omega⟩) :
    Host.dynamicUpdateSlice Y (broadcastInDim S1x16x256 ![1, 2] bcast_S16x256_S1x16x256_1_2 (Host.dotGeneral dot_S16x256x8_S16x8_S16x256_2_1_1_n_0_0 none S C))
      (fun a => (((![V, constantI S_ 32 0#32, constantI S_ 32 0#32] : Fin 3 → (⟨S_, .i32⟩ : BufTy).Contents (Elt Ideal))) a (Shape.Idx.first h_S_)).toInt)
      updateFits_S8000x16x256_S1x16x256
      = fun i => if (i 0).val < k + 1 then scanned W (x (i 1)) (i 0).val (i 2) else 0 := by
  funext i
  idx_vars i
  rw [row_write _ _ _ k hk (starts V k hk hV)]
  subst hY hS hC
  by_cases h : i0.val = k
  · rw [if_pos h]
    show _ = if i0.val < k + 1 then scanned W (x i1) i0.val i2 else 0
    rw [if_pos (by omega), h]
    pointwise
    rfl
  · rw [if_neg h]
    show (if i0.val < k then scanned W (x i1) i0.val i2 else 0) = if i0.val < k + 1 then scanned W (x i1) i0.val i2 else 0
    by_cases h' : i0.val < k
    · rw [if_pos h', if_pos (by omega)]
    · rw [if_neg h', if_neg (by omega)]

/-- The trip's time scales. -/
theorem trip_dt (H : At W x k X) (hk : k < 8000) : res_main_while0b_v88 X = fun i => delta W (x (i 0)) k (i 1) :=
  (row_wide (X (Proc.devRef .tc main_v74_0)) _ k hk (starts _ k hk H.n)).trans (by rw [H.dt]; rfl)

/-- The trip's new state. -/
theorem trip_state (H : At W x k X) (hk : k < 8000) : res_main_while0b_v105 X = fun i => state W (x (i 0)) (k + 1) (i 1) (i 2) :=
  state_value (trip_dt H hk) ((row_wide (X (Proc.devRef .tc main_v74_3)) _ k hk (starts _ k hk H.n)).trans (by rw [H.u]; rfl)) H.a H.h
    ((row_narrow (X (Proc.devRef .tc main_v74_1)) _ k hk (starts _ k hk H.n)).trans (by rw [H.cb]; rfl))

/-- The trip's new rows. -/
theorem trip_rows (H : At W x k X) (hk : k < 8000) :
    step_main_v74_7 X = fun i => if (i 0).val < k + 1 then scanned W (x (i 1)) (i 0).val (i 2) else 0 :=
  rows_value hk H.n H.y (trip_state H hk)
    ((row_narrow (X (Proc.devRef .tc main_v74_2)) _ k hk (starts _ k hk H.n)).trans (by rw [H.cc]; rfl))

/-- One trip. -/
theorem trip_at (H : At W x k X) (hk : k < 8000) : At W x (k + 1) (STEP X) where
  dt := (STEP_main_v74_0 X).trans H.dt
  cb := (STEP_main_v74_1 X).trans H.cb
  cc := (STEP_main_v74_2 X).trans H.cc
  u := (STEP_main_v74_3 X).trans H.u
  a := (STEP_main_v74_4 X).trans H.a
  n := (STEP_main_v74_5 X).trans (by
    unfold step_main_v74_5
    rw [H.n, Scf.iv_succ]
    rfl)
  h := (STEP_main_v74_6 X).trans (trip_state H hk)
  y := (STEP_main_v74_7 X).trans (trip_rows H hk)

/-- Contents that agree on the carried buffers are alike. -/
theorem At.congr {Y : Valuation τ sig (Elt Ideal)} (H : At W x k X) (h : Agree Y X) : At W x k Y where
  dt := (h main_v74_0 (by decide)).trans H.dt
  cb := (h main_v74_1 (by decide)).trans H.cb
  cc := (h main_v74_2 (by decide)).trans H.cc
  u := (h main_v74_3 (by decide)).trans H.u
  a := (h main_v74_4 (by decide)).trans H.a
  n := (h main_v74_5 (by decide)).trans H.n
  h := (h main_v74_6 (by decide)).trans H.h
  y := (h main_v74_7 (by decide)).trans H.y

end Cert.ReferenceIdeal.Run

end
-- ==== Proof.REntry.lean ====
module

public import proofs.«01_k».proof.Proof.RFrame
public import proofs.«01_k».proof.Proof.Data
public import Idealize.ShloMosaic.Lib.StableHlo.RunRead
public import Idealize.ShloMosaic.Lib.Pointwise

@[expose] public section

/-! What the reference's buffers hold where its loop starts: the layer's quantities for every sequence and time. -/

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen Cert.ReferenceIdeal.Value Cert.Layer

variable (m : (ℓ : Loc nD τ sig) → Buf (Elt Ideal) ℓ)

/-- The layer's weights as the launch finds them. -/
def wOf (c : Dev nD) : Wt :=
  weights (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11))

/-- The launch's sequence `b`. -/
def xOf (c : Dev nD) (b : Fin 16) : ℕ → Fin 128 → EReal   := Layer.seq (m ((c : Thread nD τ).loc main_arg0)) b

/-- The buffers after stretch 0 of the lines before the loop. -/
def E0 (c : Dev nD) : Valuation τ sig (Elt Ideal) := after hostOps0 (fun b => m (c, b))

/-- The buffers after stretch 1 of the lines before the loop. -/
def E1 (c : Dev nD) : Valuation τ sig (Elt Ideal) := after hostOps0_1 (E0 m c)

/-- The buffers after stretch 2 of the lines before the loop. -/
def E2 (c : Dev nD) : Valuation τ sig (Elt Ideal) := after hostOps0_2 (E1 m c)

/-- The buffers after stretch 3 of the lines before the loop. -/
def E3 (c : Dev nD) : Valuation τ sig (Elt Ideal) := after hostOps0_3 (E2 m c)

/-- The buffers after stretch 4 of the lines before the loop. -/
def E4 (c : Dev nD) : Valuation τ sig (Elt Ideal) := after hostOps0_4 (E3 m c)

/-- The buffers after stretch 5 of the lines before the loop. -/
def E5 (c : Dev nD) : Valuation τ sig (Elt Ideal) := after hostOps0_5 (E4 m c)

/-- The buffers after stretch 6 of the lines before the loop. -/
def E6 (c : Dev nD) : Valuation τ sig (Elt Ideal) := after hostOps0_6 (E5 m c)

/-- The buffers after stretch 7 of the lines before the loop. -/
def E7 (c : Dev nD) : Valuation τ sig (Elt Ideal) := after hostOps0_7 (E6 m c)

/-- The buffers after stretch 8 of the lines before the loop. -/
def E8 (c : Dev nD) : Valuation τ sig (Elt Ideal) := after hostOps0_8 (E7 m c)

/-- An argument, or any other buffer these lines do not write, is unchanged after every stretch. -/
theorem E_keeps (c : Dev nD) (r : Ref sig .tc) (h : r ∉ preW) :
    E0 m c (Proc.devRef .tc r) = m (c, Proc.devRef .tc r) ∧ E1 m c (Proc.devRef .tc r) = m (c, Proc.devRef .tc r)
    ∧ E2 m c (Proc.devRef .tc r) = m (c, Proc.devRef .tc r) ∧ E3 m c (Proc.devRef .tc r) = m (c, Proc.devRef .tc r)
    ∧ E4 m c (Proc.devRef .tc r) = m (c, Proc.devRef .tc r) ∧ E5 m c (Proc.devRef .tc r) = m (c, Proc.devRef .tc r)
    ∧ E6 m c (Proc.devRef .tc r) = m (c, Proc.devRef .tc r) ∧ E7 m c (Proc.devRef .tc r) = m (c, Proc.devRef .tc r) := by
  simp only [preW, List.mem_append, not_or] at h
  obtain ⟨⟨⟨⟨⟨⟨⟨⟨h0, h1⟩, h2⟩, h3⟩, h4⟩, h5⟩, h6⟩, h7⟩, h8⟩ := h
  have e0 : E0 m c (Proc.devRef .tc r) = m (c, Proc.devRef .tc r) := after_of_writes_sub _ _ hostOps0_writes h0
  have e1 := (show E1 m c (Proc.devRef .tc r) = _ from after_of_writes_sub _ _ hostOps0_1_writes h1).trans e0
  have e2 := (show E2 m c (Proc.devRef .tc r) = _ from after_of_writes_sub _ _ hostOps0_2_writes h2).trans e1
  have e3 := (show E3 m c (Proc.devRef .tc r) = _ from after_of_writes_sub _ _ hostOps0_3_writes h3).trans e2
  have e4 := (show E4 m c (Proc.devRef .tc r) = _ from after_of_writes_sub _ _ hostOps0_4_writes h4).trans e3
  have e5 := (show E5 m c (Proc.devRef .tc r) = _ from after_of_writes_sub _ _ hostOps0_5_writes h5).trans e4
  have e6 := (show E6 m c (Proc.devRef .tc r) = _ from after_of_writes_sub _ _ hostOps0_6_writes h6).trans e5
  have e7 := (show E7 m c (Proc.devRef .tc r) = _ from after_of_writes_sub _ _ hostOps0_7_writes h7).trans e6
  exact ⟨e0, e1, e2, e3, e4, e5, e6, e7⟩

/-- The input rearranged into sequences. -/
theorem v3_at (c : Dev nD) (b : Fin 16) (t : Fin 8000) (k : Fin 128) : E0 m c (Proc.devRef .tc main_v3) (ix3 b t k) = xOf m c b t.val k := by
  unfold E0
  simp only [hostOps0]
  after_reads_simp
  pointwise [xOf, Layer.seq]
  have ht : t.val / 400 % 20 = t.val / 400 := by omega
  simp only [ht]

/-- The mean of a step's channels. -/
theorem v7_at (c : Dev nD) (b : Fin 16) (t : Fin 8000) : E0 m c (Proc.devRef .tc main_v7) (ix3 (n2 := 1) b t 0) = mean (xOf m c b) t.val := by
  unfold E0
  simp only [hostOps0]
  after_reads_simp
  pointwise [xOf, Layer.seq, mean]
  have ht : t.val / 400 % 20 = t.val / 400 := by omega
  simp only [ht]

/-- The input rearranged, as an array. -/
theorem v3_eq (c : Dev nD) : E0 m c (Proc.devRef .tc main_v3) = fun i => xOf m c (i 0) (i 1).val (i 2) := by
  funext i
  idx_vars i
  exact v3_at m c i0 i1 i2

/-- The mean as an array. -/
theorem v7_eq (c : Dev nD) : E0 m c (Proc.devRef .tc main_v7) = fun i => mean (xOf m c (i 0)) (i 1).val := by
  funext i
  idx_vars i
  have h := Subsingleton.elim i2 0
  subst h
  exact v7_at m c i0 i1

/-- The count of channels is positive. -/
theorem count_pos : (0 : EReal) < Ideal.ofBits .f32 0x43000000#32 := by
  have h : Ideal.ofBits .f32 0x43000000#32 = ((128 : ℝ) : EReal) := by
    simp [Ideal.ofBits, Ideal.ieee, -EReal.coe_mul]
    norm_num
  rw [h]
  exact_mod_cast (by norm_num : (0 : ℝ) < 128)

/-- The integer zero converted is zero. -/
theorem int_zero : (FloatOps.sitofp FTy.f32 0#32 : Ideal .f32) = 0 := by
  show ((((0#32 : BitVec 32).toInt : ℤ) : ℝ) : EReal) = 0
  simp

/-- The integer zero that the variance and the padding convert. -/
theorem c_at (c : Dev nD) : E0 m c (Proc.devRef .tc main_c) = constantI S_ 32 0#32 := by
  unfold E0
  simp only [hostOps0]
  after_reads_simp

/-- The variance of a step's channels: its divisor, the count less nothing, is positive. -/
theorem v8_at (c : Dev nD) (b : Fin 16) (t : Fin 8000) : E1 m c (Proc.devRef .tc main_v8) (ix3 (n2 := 1) b t 0) = var (xOf m c b) t.val := by
  unfold E1
  simp only [hostOps0_1]
  after_reads_simp
  simp only [TRef.ofBuf_toBuf]
  simp only [TRef.ofBuf, TRef.toBuf, cast_eq]
  pointwise
  have hz : (FloatOps.sitofp FTy.f32 (constantI S_ 32 0#32 ix0) : Ideal .f32) = 0 := int_zero
  simp only [c_at m c, v3_eq m c]
  rw [hz, sub_zero, if_pos count_pos]
  rfl

/-- The variance as an array. -/
theorem v8_eq (c : Dev nD) : E1 m c (Proc.devRef .tc main_v8) = fun i => var (xOf m c (i 0)) (i 1).val := by
  funext i
  idx_vars i
  have h := Subsingleton.elim i2 0
  subst h
  exact v8_at m c i0 i1

/-- The input is kept by the variance's lines, -/
theorem v3_keep (c : Dev nD) : E1 m c (Proc.devRef .tc main_v3) = E0 m c (Proc.devRef .tc main_v3) :=
  after_of_writes_sub _ _ hostOps0_1_writes (by decide +kernel)

/-- and so is the mean. -/
theorem v7_keep (c : Dev nD) : E1 m c (Proc.devRef .tc main_v7) = E0 m c (Proc.devRef .tc main_v7) :=
  after_of_writes_sub _ _ hostOps0_1_writes (by decide +kernel)

/-- The two halves of the input projection. -/
theorem v23_at (c : Dev nD) (b : Fin 16) (t : Fin 8000) (d : Fin 256) :
    E2 m c (Proc.devRef .tc main_v23) (ix3 b t d) = pre (wOf m c) (xOf m c b) t.val d
    ∧ E2 m c (Proc.devRef .tc main_v24) (ix3 b t d) = gate (wOf m c) (xOf m c b) t.val d := by
  unfold E2
  simp only [hostOps0_2]
  constructor <;>
  · after_reads_simp
    pointwise
    simp only [v3_keep m c, v7_keep m c, v3_eq m c, v7_eq m c, v8_eq m c, (E_keeps m c main_arg1 (by decide +kernel)).2.1, (E_keeps m c main_arg2 (by decide +kernel)).2.1, (E_keeps m c main_arg3 (by decide +kernel)).2.1]
    rfl

/-- The first half of the projection, as an array. -/
theorem v23_eq (c : Dev nD) : E2 m c (Proc.devRef .tc main_v23) = fun i => pre (wOf m c) (xOf m c (i 0)) (i 1).val (i 2) := by
  funext i
  idx_vars i
  exact (v23_at m c i0 i1 i2).1

/-- The convolution's input, padded in front by three steps of zeros. -/
theorem v25_at (c : Dev nD) (b : Fin 16) (t : Fin 8003) (d : Fin 256) :
    E3 m c (Proc.devRef .tc main_v25) (ix3 b t d) = padded (wOf m c) (xOf m c b) t.val d := by
  have hc : E2 m c (Proc.devRef .tc main_c_2) = constantI S_ 32 0#32 := by
    unfold E2
    simp only [hostOps0_2]
    after_reads_simp
  unfold E3
  simp only [hostOps0_3]
  after_reads_simp
  simp only [TRef.ofBuf_toBuf]
  simp only [TRef.ofBuf, TRef.toBuf, cast_eq, hc]
  pointwise
  simp only [v23_eq m c]
  unfold padded
  by_cases h : t.val < 3
  · rw [if_pos h, dif_neg (by omega)]
    exact int_zero
  · rw [if_neg h, dif_pos (by omega)]
    rfl

/-- The convolution's padded input, as an array. -/
theorem v25_eq (c : Dev nD) : E3 m c (Proc.devRef .tc main_v25) = fun i => padded (wOf m c) (xOf m c (i 0)) (i 1).val (i 2) := by
  funext i
  idx_vars i
  exact v25_at m c i0 i1 i2

/-- The convolution. -/
theorem v55_at (c : Dev nD) (b : Fin 16) (t : Fin 8000) (d : Fin 256) :
    E4 m c (Proc.devRef .tc main_v55) (ix3 b t d) = conv (wOf m c) (xOf m c b) t.val d := by
  unfold E4
  simp only [hostOps0_4]
  after_reads_simp
  pointwise
  simp only [v25_eq m c, (E_keeps m c main_arg4 (by decide +kernel)).2.2.2.1, (E_keeps m c main_arg5 (by decide +kernel)).2.2.2.1]
  unfold conv
  rw [Nat.add_comm t.val 1, Nat.add_comm t.val 2, Nat.add_comm t.val 3]
  rfl

/-- The convolution, as an array. -/
theorem v55_eq (c : Dev nD) : E4 m c (Proc.devRef .tc main_v55) = fun i => conv (wOf m c) (xOf m c (i 0)) (i 1).val (i 2) := by
  funext i
  idx_vars i
  exact v55_at m c i0 i1 i2

/-- The activation. -/
theorem v56_at (c : Dev nD) (b : Fin 16) (t : Fin 8000) (d : Fin 256) :
    E5 m c (Proc.devRef .tc main_v56) (ix3 b t d) = act (wOf m c) (xOf m c b) t.val d := by
  unfold E5
  simp only [hostOps0_5]
  after_reads_simp
  simp only [TRef.ofBuf, TRef.toBuf, cast_eq]
  pointwise
  simp only [v55_eq m c]
  rfl

/-- The activation, as an array. -/
theorem v56_eq (c : Dev nD) : E5 m c (Proc.devRef .tc main_v56) = fun i => act (wOf m c) (xOf m c (i 0)) (i 1).val (i 2) := by
  funext i
  idx_vars i
  exact v56_at m c i0 i1 i2

/-- The time scale before the softplus, and the two coefficient vectors. -/
theorem v64_at (c : Dev nD) (b : Fin 16) (t : Fin 8000) :
    (∀ d, E6 m c (Proc.devRef .tc main_v64) (ix3 b t d) = rate (wOf m c) (xOf m c b) t.val d)
    ∧ (∀ s : Fin 8, E6 m c (Proc.devRef .tc main_v59) (ix3 b t s) = coef (wOf m c) (xOf m c b) t.val ⟨8 + s.val, by omega⟩)
    ∧ (∀ s : Fin 8, E6 m c (Proc.devRef .tc main_v60) (ix3 b t s) = coef (wOf m c) (xOf m c b) t.val ⟨16 + s.val, by omega⟩) := by
  unfold E6
  simp only [hostOps0_6]
  refine ⟨?_, ?_, ?_⟩ <;>
  · intro d
    after_reads_simp
    pointwise
    simp only [v56_eq m c, (E_keeps m c main_arg6 (by decide +kernel)).2.2.2.2.2.1, (E_keeps m c main_arg7 (by decide +kernel)).2.2.2.2.2.1, (E_keeps m c main_arg8 (by decide +kernel)).2.2.2.2.2.1]
    rfl

/-- The time scale before the softplus, as an array. -/
theorem v64_eq (c : Dev nD) : E6 m c (Proc.devRef .tc main_v64) = fun i => rate (wOf m c) (xOf m c (i 0)) (i 1).val (i 2) := by
  funext i
  idx_vars i
  exact (v64_at m c i0 i1).1 i2

/-- The time scale. -/
theorem v65_at (c : Dev nD) (b : Fin 16) (t : Fin 8000) (d : Fin 256) :
    E7 m c (Proc.devRef .tc main_v65) (ix3 b t d) = delta (wOf m c) (xOf m c b) t.val d := by
  unfold E7
  simp only [hostOps0_7]
  after_reads_simp
  simp only [TRef.ofBuf_toBuf]
  simp only [TRef.ofBuf, TRef.toBuf, cast_eq]
  pointwise
  simp only [v64_eq m c]
  rw [if_neg (fun h => h rfl)]
  rfl

end Cert.ReferenceIdeal.Run

end
-- ==== Proof.RValue.lean ====
module

public import proofs.«01_k».proof.Proof.RTrip
public import proofs.«01_k».proof.Proof.REntry
public import Idealize.ShloMosaic.Lib.StableHlo.RunRead
public import Idealize.ShloMosaic.Lib.Pointwise

@[expose] public section

/-! What the reference computes: its result at a place of the image is the layer's output there. -/

set_option maxRecDepth 16384

noncomputable section

open Idealize.ShloMosaic Idealize.ShloMosaic.TcCoe Idealize.ShloMosaic.StableHlo
open Idealize.SL.Sem

namespace Cert.ReferenceIdeal.Run

open Cert.ReferenceIdeal Cert.ReferenceIdeal.Gen Cert.ReferenceIdeal.Value Cert.Layer

variable (m : (ℓ : Loc nD τ sig) → Buf (Elt Ideal) ℓ)

/-- A buffer the last stretch before the loop and the softplus do not write is kept by them. -/
theorem E8_keeps (c : Dev nD) (r : Ref sig .tc) (h6 : r ∉ hostOps0_6_W) (h7 : r ∉ hostOps0_7_W) (h8 : r ∉ hostOps0_8_W) :
    E8 m c (Proc.devRef .tc r) = E5 m c (Proc.devRef .tc r) := by
  unfold E8 E7 E6
  rw [after_of_writes_sub _ _ hostOps0_8_writes h8, after_of_writes_sub _ _ hostOps0_7_writes h7, after_of_writes_sub _ _ hostOps0_6_writes h6]

/-- The loop's entry is the end of these stretches. -/
theorem entry_eq (c : Dev nD) : entryContents preI m c = E8 m c := by
  simp only [entryContents, preI, afterL_cons, afterL_nil]
  rfl

/-- The coefficients and the activations at the softplus's end. -/
theorem E7_v59 (c : Dev nD) : E7 m c (Proc.devRef .tc main_v59) = E6 m c (Proc.devRef .tc main_v59) :=
  after_of_writes_sub _ _ hostOps0_7_writes (by decide +kernel)
/-- The second coefficients. -/
theorem E7_v60 (c : Dev nD) : E7 m c (Proc.devRef .tc main_v60) = E6 m c (Proc.devRef .tc main_v60) :=
  after_of_writes_sub _ _ hostOps0_7_writes (by decide +kernel)
/-- The activations. -/
theorem E7_v56 (c : Dev nD) : E7 m c (Proc.devRef .tc main_v56) = E5 m c (Proc.devRef .tc main_v56) :=
  (after_of_writes_sub _ _ hostOps0_7_writes (by decide +kernel)).trans (after_of_writes_sub _ _ hostOps0_6_writes (by decide +kernel))

/-- The time scales at the loop's entry. -/
theorem entry_dt (c : Dev nD) : E8 m c (Proc.devRef .tc main_v74_0) = fun i => delta (wOf m c) (xOf m c (i 1)) (i 0).val (i 2) := by
  unfold E8
  simp only [hostOps0_8]
  after_reads_simp
  simp only [id_eq]
  funext i
  idx_vars i
  pointwise
  exact v65_at m c i1 i0 i2

/-- The first coefficients at the loop's entry. -/
theorem entry_cb (c : Dev nD) : E8 m c (Proc.devRef .tc main_v74_1) = coefs (wOf m c) (xOf m c) 8 (by omega) := by
  unfold E8
  simp only [hostOps0_8]
  after_reads_simp
  simp only [id_eq]
  funext i
  idx_vars i
  pointwise
  exact (congrFun (E7_v59 m c) _).trans ((v64_at m c i1 i0).2.1 i2)

/-- The second coefficients at the loop's entry. -/
theorem entry_cc (c : Dev nD) : E8 m c (Proc.devRef .tc main_v74_2) = coefs (wOf m c) (xOf m c) 16 (by omega) := by
  unfold E8
  simp only [hostOps0_8]
  after_reads_simp
  simp only [id_eq]
  funext i
  idx_vars i
  pointwise
  exact (congrFun (E7_v60 m c) _).trans ((v64_at m c i1 i0).2.2 i2)

/-- The activations at the loop's entry. -/
theorem entry_u (c : Dev nD) : E8 m c (Proc.devRef .tc main_v74_3) = fun i => act (wOf m c) (xOf m c (i 1)) (i 0).val (i 2) := by
  unfold E8
  simp only [hostOps0_8]
  after_reads_simp
  simp only [id_eq]
  funext i
  idx_vars i
  pointwise
  exact (congrFun (E7_v56 m c) _).trans (v56_at m c i1 i0 i2)

/-- The decay rates at the loop's entry. -/
theorem entry_a (c : Dev nD) : E8 m c (Proc.devRef .tc main_v74_4) = fun i => -(Ideal.exp ((wOf m c).al (i 0) (i 1))) := by
  unfold E8
  simp only [hostOps0_8]
  after_reads_simp
  simp only [id_eq]
  funext i
  idx_vars i
  pointwise
  exact congrArg (fun v : FVec Ideal S256x8 .f32 => -(Ideal.exp (v (ix2 i0 i1)))) (E_keeps m c main_arg9 (by decide +kernel)).2.2.2.2.2.2.2

/-- The counter, zero, at the loop's entry. -/
theorem entry_n (c : Dev nD) : E8 m c (Proc.devRef .tc main_v74_5) = fun _ => Scf.iv 0#32 1#32 0 := by
  unfold E8
  simp only [hostOps0_8]
  after_reads_simp
  rw [Scf.iv_zero]
  rfl

/-- The state, zero, at the loop's entry. -/
theorem entry_h (c : Dev nD) : E8 m c (Proc.devRef .tc main_v74_6) = fun i => state (wOf m c) (xOf m c (i 0)) 0 (i 1) (i 2) := by
  unfold E8
  simp only [hostOps0_8]
  after_reads_simp
  simp only [id_eq]
  funext i
  idx_vars i
  pointwise
  rfl

/-- The rows, all zero, at the loop's entry. -/
theorem entry_y (c : Dev nD) : E8 m c (Proc.devRef .tc main_v74_7) = fun i => if (i 0).val < 0 then scanned (wOf m c) (xOf m c (i 1)) (i 0).val (i 2) else 0 := by
  unfold E8
  simp only [hostOps0_8]
  after_reads_simp
  simp only [id_eq]
  funext i
  idx_vars i
  pointwise
  exact (if_neg (Nat.not_lt_zero _)).symm

/-- What the loop carries at its entry. -/
theorem entry_at (c : Dev nD) : At (wOf m c) (xOf m c) 0 (E8 m c) where
  dt := entry_dt m c
  cb := entry_cb m c
  cc := entry_cc m c
  u := entry_u m c
  a := entry_a m c
  n := entry_n m c
  h := entry_h m c
  y := entry_y m c

/-- What it carries before every trip. -/
theorem loop_at (c : Dev nD) : ∀ k, k ≤ 8000 → At (wOf m c) (xOf m c) k (atK m k c)
  | 0, _ => by
    show At _ _ 0 (entryContents preI m c)
    rw [entry_eq]
    exact entry_at m c
  | k + 1, h => (trip_at (loop_at c k (by omega)) (by omega)).congr (trip_agree (atK m k c))

/-- The rows at the loop's end. -/
theorem rows_at (c : Dev nD) : atEnd m c (Proc.devRef .tc main_v74_7)
    = fun i => if (i 0).val < 8000 then scanned (wOf m c) (xOf m c (i 1)) (i 0).val (i 2) else 0 :=
  ((loop_at m c 8000 le_rfl).congr (cond_keeps (atK m 8000 c))).y

/-- A buffer the loop and the three stretches before it do not write is at the loop's end as at the activation's. -/
theorem late_keeps (c : Dev nD) (r : Ref sig .tc) (hl : r ∉ loopW) (h6 : r ∉ hostOps0_6_W) (h7 : r ∉ hostOps0_7_W) (h8 : r ∉ hostOps0_8_W) :
    atEnd m c (Proc.devRef .tc r) = E5 m c (Proc.devRef .tc r) := by
  have hc : r ∉ condOps_W := fun hr => hl (by simp only [loopW, List.mem_append]; tauto)
  rw [atEnd, after_of_writes_sub _ _ condOps_writes hc, loop_keeps m c r hl, entry_eq, E8_keeps m c r h6 h7 h8]

/-- The gate at the loop's end. -/
theorem gate_at (c : Dev nD) : atEnd m c (Proc.devRef .tc main_v24) = fun i => gate (wOf m c) (xOf m c (i 0)) (i 1).val (i 2) := by
  rw [late_keeps m c main_v24 (by decide +kernel) (by decide +kernel) (by decide +kernel) (by decide +kernel)]
  unfold E5 E4 E3
  rw [after_of_writes_sub _ _ hostOps0_5_writes (by decide +kernel), after_of_writes_sub _ _ hostOps0_4_writes (by decide +kernel),
    after_of_writes_sub _ _ hostOps0_3_writes (by decide +kernel)]
  funext i
  idx_vars i
  exact (v23_at m c i0 i1 i2).2

/-- The activations at the loop's end. -/
theorem act_at (c : Dev nD) : atEnd m c (Proc.devRef .tc main_v56) = fun i => act (wOf m c) (xOf m c (i 0)) (i 1).val (i 2) :=
  (late_keeps m c main_v56 (by decide +kernel) (by decide +kernel) (by decide +kernel) (by decide +kernel)).trans (v56_eq m c)

/-- The buffers after the first stretch after the loop, -/
def F1 (c : Dev nD) : Valuation τ sig (Elt Ideal) := after hostOps0_9 (atEnd m c)

/-- and after the second. -/
def F2 (c : Dev nD) : Valuation τ sig (Elt Ideal) := after hostOps0_10 (F1 m c)

/-- The recurrence's output with the direct path, of what the stretch reads. -/
theorem v79_value {W : Wt} {x : Fin 16 → ℕ → Fin 128 → EReal} (U : Valuation τ sig (Elt Ideal))
    (hy : U (Proc.devRef .tc main_v74_7) = fun i => if (i 0).val < 8000 then scanned W (x (i 1)) (i 0).val (i 2) else 0)
    (hu : U (Proc.devRef .tc main_v56) = fun i => act W (x (i 0)) (i 1).val (i 2))
    (hd : U (Proc.devRef .tc main_arg10) = fun i => W.dv (i 0)) (b : Fin 16) (t : Fin 8000) (d : Fin 256) :
    after hostOps0_9 U (Proc.devRef .tc main_v79) (ix3 b t d) = scanned W (x b) t.val d + act W (x b) t.val d * W.dv d := by
  simp only [hostOps0_9]
  after_reads_simp
  pointwise
  simp only [hy, hu, hd]
  show (if t.val < 8000 then scanned W (x b) t.val d else 0) + act W (x b) t.val d * W.dv d = _
  rw [if_pos t.isLt]

/-- The recurrence's output with the direct path. -/
theorem v79_eq (c : Dev nD) : F1 m c (Proc.devRef .tc main_v79)
    = fun i => scanned (wOf m c) (xOf m c (i 0)) (i 1).val (i 2) + act (wOf m c) (xOf m c (i 0)) (i 1).val (i 2) * (wOf m c).dv (i 2) := by
  funext i
  idx_vars i
  exact v79_value (atEnd m c) (rows_at m c) (act_at m c)
    ((end_keeps m c main_arg10 (by decide +kernel) (by decide +kernel)).trans (by funext i; idx_vars i; rfl)) i0 i1 i2

/-- The gate's activation, of what the stretch reads. -/
theorem v80_value {g : FVec Ideal S16x8000x256 .f32} (U : Valuation τ sig (Elt Ideal)) (hg : U (Proc.devRef .tc main_v24) = g)
    (b : Fin 16) (t : Fin 8000) (d : Fin 256) :
    after hostOps0_10 U (Proc.devRef .tc main_v80) (ix3 b t d) = g (ix3 b t d) * Ideal.logistic (g (ix3 b t d)) := by
  simp only [hostOps0_10]
  after_reads_simp
  simp only [TRef.ofBuf, TRef.toBuf, cast_eq]
  pointwise
  simp only [hg]
  rfl

/-- The gate's activation. -/
theorem v80_eq (c : Dev nD) : F2 m c (Proc.devRef .tc main_v80)
    = fun i => gate (wOf m c) (xOf m c (i 0)) (i 1).val (i 2) * Ideal.logistic (gate (wOf m c) (xOf m c (i 0)) (i 1).val (i 2)) := by
  have hg : F1 m c (Proc.devRef .tc main_v24) = fun i => gate (wOf m c) (xOf m c (i 0)) (i 1).val (i 2) :=
    (after_of_writes_sub _ _ post9_writes (by decide +kernel)).trans (gate_at m c)
  funext i
  idx_vars i
  exact v80_value (F1 m c) hg i0 i1 i2

/-- The result's contents at the program's end. -/
def resultArr (c : Dev nD) : Buf (Elt Ideal) ((c : Thread nD τ).loc main_v87) :=
  finalContents condOps preI bodyI postI 8000 m c (Proc.devRef .tc main_v87)

/-- The input at a place of the image is its sequence's at its time. -/
theorem seq_at (X : FVec Ideal S2x128x40x40x40 .f32) (n : Fin 2) (k : Fin 128) (z y x : Fin 40) :
    Layer.seq X (seqAt n z y x) (timeAt z y x) k = X (ix5 n k z y x) := by
  unfold Layer.seq seqAt timeAt
  obtain ⟨n, hn⟩ := n
  obtain ⟨z, hz⟩ := z
  obtain ⟨y, hy⟩ := y
  obtain ⟨x, hx⟩ := x
  have hp : (z / 2 * 400 + y / 2 * 20 + x / 2) / 400 = z / 2 ∧ (z / 2 * 400 + y / 2 * 20 + x / 2) / 20 % 20 = y / 2
      ∧ (z / 2 * 400 + y / 2 * 20 + x / 2) % 20 = x / 2 := by omega
  have hq : (n * 8 + z % 2 * 4 + y % 2 * 2 + x % 2) / 8 = n ∧ (n * 8 + z % 2 * 4 + y % 2 * 2 + x % 2) / 4 % 2 = z % 2
      ∧ (n * 8 + z % 2 * 4 + y % 2 * 2 + x % 2) / 2 % 2 = y % 2 ∧ (n * 8 + z % 2 * 4 + y % 2 * 2 + x % 2) % 2 = x % 2 := by omega
  have ez : z / 2 % 20 * 2 + z % 2 = z := by omega
  have ey : y / 2 * 2 + y % 2 = y := by omega
  have ex : x / 2 * 2 + x % 2 = x := by omega
  simp only [hp.1, hp.2.1, hp.2.2, hq.1, hq.2.1, hq.2.2.1, hq.2.2.2, ez, ey, ex]

/-- The output, of the gated sum and the input in the order the program adds them. -/
theorem out_of {W : Wt} (x : Fin 16 → ℕ → Fin 128 → EReal) {A : FVec Ideal S128x256 .f32} {X : FVec Ideal S2x128x40x40x40 .f32}
    (hA : ∀ {k d}, W.wo k d = A (ix2 k d)) (n : Fin 2) (k : Fin 128) (z y w : Fin 40)
    (hX : x (seqAt n z y w) (timeAt z y w) k = X (ix5 n k z y w)) :
    (∑ d, (scanned W (x ⟨n.val * 8 + z.val % 2 * 4 + y.val % 2 * 2 + w.val % 2, by omega⟩) (z.val / 2 * 400 + y.val / 2 * 20 + w.val / 2) d
          + act W (x ⟨n.val * 8 + z.val % 2 * 4 + y.val % 2 * 2 + w.val % 2, by omega⟩) (z.val / 2 * 400 + y.val / 2 * 20 + w.val / 2) d * W.dv d)
        * (gate W (x ⟨n.val * 8 + z.val % 2 * 4 + y.val % 2 * 2 + w.val % 2, by omega⟩) (z.val / 2 * 400 + y.val / 2 * 20 + w.val / 2) d
          * Ideal.logistic (gate W (x ⟨n.val * 8 + z.val % 2 * 4 + y.val % 2 * 2 + w.val % 2, by omega⟩) (z.val / 2 * 400 + y.val / 2 * 20 + w.val / 2) d))
        * A (ix2 k d)) + X (ix5 n k z y w) = out W (x (seqAt n z y w)) (timeAt z y w) k := by
  unfold out
  rw [hX, add_comm]
  simp only [gated, hA]
  rfl

/-- The result at a place of the image: the layer's output of that place's sequence at that place's time. -/
theorem result (c : Dev nD) (n : Fin 2) (k : Fin 128) (z y x : Fin 40) :
    resultArr m c (ix5 n k z y x) = out (wOf m c) (xOf m c (seqAt n z y x)) (timeAt z y x) k := by
  have h79 : F2 m c (Proc.devRef .tc main_v79) = F1 m c (Proc.devRef .tc main_v79) := after_of_writes_sub _ _ post10_writes (by decide +kernel)
  have keep (r : Ref sig .tc) (hl : r ∉ loopW) (h : r ∉ preW) (h9 : r ∉ post9W) (h10 : r ∉ post10W) :
      F2 m c (Proc.devRef .tc r) = m ((c : Thread nD τ).loc r) :=
    (after_of_writes_sub _ _ post10_writes h10).trans ((after_of_writes_sub _ _ post9_writes h9).trans (end_keeps m c r hl h))
  have h0 := keep main_arg0 (by decide +kernel) (by decide +kernel) (by decide +kernel) (by decide +kernel)
  have h11 := keep main_arg11 (by decide +kernel) (by decide +kernel) (by decide +kernel) (by decide +kernel)
  unfold resultArr
  simp only [finalContents, postI, afterL_cons, afterL_nil]
  show after hostOps0_11 (F2 m c) _ _ = _
  simp only [hostOps0_11]
  after_reads_simp
  simp only [h79, v79_eq m c, v80_eq m c, h0, h11]
  pointwise
  exact out_of (xOf m c) rfl n k z y x (seq_at (m ((c : Thread nD τ).loc main_arg0)) n k z y x)

end Cert.ReferenceIdeal.Run

end
-- ==== Proof.Final.lean ====
module

public import proofs.«01_k».proof.Proof.KValue
public import proofs.«01_k».proof.Proof.RValue

@[expose] public section

/-! Both programs compute the layer: from memories that agree on the arguments they end with equal results. -/

set_option maxRecDepth 16384

noncomputable section

open Idealize.ShloMosaic Idealize.ShloMosaic.TcCoe
open Idealize.SL.Sem

namespace Cert.Final

/-- The kernel's result ends at its value. -/
theorem kernel_run (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩
      (fun r => ∀ c : Dev KernelIdeal.nD, r.2.mem ((c.tc : Thread KernelIdeal.nD KernelIdeal.τ).loc KernelIdeal.main_v17) = KernelIdeal.Run.resultArr m c) :=
  (θ_run (KernelIdeal.defs (F := Ideal)) _ _).mono
    (fun _ h c => (h.1 c).2 KernelIdeal.main_v17 (Pipeline.mem_restRefs_of KernelIdeal.main_v17 (by decide) (by decide)))
    (KernelIdeal.Run.run_main m ρ)

/-- The reference's result ends at its value. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => ∀ c : Dev ReferenceIdeal.nD, r.2.mem ((c.tc : Thread ReferenceIdeal.nD ReferenceIdeal.τ).loc ReferenceIdeal.main_v87) = ReferenceIdeal.Run.resultArr m c) :=
  (θ_run (ReferenceIdeal.defs (F := Ideal)) _ _).mono (fun _ h c => h c ReferenceIdeal.main_v87 rfl) (ReferenceIdeal.Value.run_fold m ρ)

/-- The two results are equal when the arguments are. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hw : ReferenceIdeal.Run.wOf m' c = KernelIdeal.Run.wOf m c) (hx : ReferenceIdeal.Run.xOf m' c = KernelIdeal.Run.xOf m c) :
    ReferenceIdeal.Run.resultArr m' c = KernelIdeal.Run.resultArr m c := by
  have h (i : KernelIdeal.S2x128x40x40x40.Idx) : ReferenceIdeal.Run.resultArr m' c i = KernelIdeal.Run.resultArr m c i := by
    idx_vars i
    refine (ReferenceIdeal.Run.result m' c i0 i1 i2 i3 i4).trans (Eq.trans ?_ (KernelIdeal.Run.result m c i0 i1 i2 i3 i4).symm)
    rw [hw, hx]
  exact funext h

/-- The idealised kernel and the reference are equal at exact arithmetic. -/
theorem equal : Cert.algebraic_KernelIdeal_ReferenceIdeal := by
  intro m g m' g' _ h
  have e (c : Dev KernelIdeal.nD) : ReferenceIdeal.Run.resultArr m' c = KernelIdeal.Run.resultArr m c := by
    obtain ⟨h0, h1, h2, h3, h4, h5, h6, h7, h8, h9, h10, h11⟩ := h c
    refine results_eq m m' c ?_ ?_
    · unfold ReferenceIdeal.Run.wOf KernelIdeal.Run.wOf
      rw [h1, h2, h3, h4, h5, h6, h7, h8, h9, h10, h11]
    · funext b
      exact congrArg (fun X => Layer.seq X b) h0
  refine ⟨KernelIdeal.Run.resultArr m, ?_, ?_⟩
  · exact (θ_run (KernelIdeal.defs (F := Ideal)) _ _).mono (fun _ h c => ⟨h.1 c, h.2.1 c⟩)
      (θ_run_and (kernel_run m g) (KernelIdeal.Run.frame m g))
  · exact (θ_run (ReferenceIdeal.defs (F := Ideal)) _ _).mono (fun _ h c => ⟨(h.1 c).trans (e c), h.2.1 c⟩)
      (θ_run_and (reference_run m' g') (ReferenceIdeal.Run.frame m' g'))

end Cert.Final

end
-- ==== Proof.lean ====
module

public import proofs.«01_k».proof.Defs
public import proofs.«01_k».proof.Proof.BLaunch
public import proofs.«01_k».proof.Proof.KLaunch
public import proofs.«01_k».proof.Proof.RFrame
public import proofs.«01_k».proof.Proof.Final

@[expose] public section

noncomputable section

namespace Cert.Proof

open Idealize.ShloMosaic Idealize.SL.Sem

/-- The claim: the frames, the idealised kernel being the kernel's own text, and its results being the reference's at exact arithmetic. -/
theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g,
  fun m g _ => Cert.ReferenceIdeal.Run.frame m g, trivial, Cert.Final.equal⟩

end Cert.Proof

end
